-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "tenth" .f32 0x3DCCCCCD#32 ((10⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S200x200x80 : Shape := ⟨3, ![200, 200, 80]⟩
abbrev S100000x3 : Shape := ⟨2, ![100000, 3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel

variable [Facts]

def fn {F : FTy → Type} [FloatOps F] (main_arg0 : FVec F S200x200x80 .f32) (main_arg1 : FVec F S100000x3 .f32) (main_arg2 : IVec S_ 32) : IVec S_ 1 :=
  let main_cst : FVec F S_ .f32 := constant S_ .f32 0x00000000#32
  let main_v0 : FVec F S100000x3 .f32 := broadcastInDim S100000x3 ![] bcast_S_S100000x3 main_cst
  let main_v1 : IVec S100000x3 1 := cmpf .oge main_arg1 main_v0
  let main_c : IVec S_ 1 := constantI S_ 1 1#1
  let main_v2 : IVec S_ 1 := (fun x v => Host.reduce IntOp.andi x v reducesTo_S100000x3_S_d0_1 h_S_) main_v1 main_c
  let main_cst_0 : FVec F S_ .f32 := constant S_ .f32 0x3F800000#32
  let main_v3 : FVec F S100000x3 .f32 := broadcastInDim S100000x3 ![] bcast_S_S100000x3 main_cst_0
  let main_v4 : IVec S100000x3 1 := cmpf .ole main_arg1 main_v3
  let main_c_1 : IVec S_ 1 := constantI S_ 1 1#1
  let main_v5 : IVec S_ 1 := (fun x v => Host.reduce IntOp.andi x v reducesTo_S100000x3_S_d0_1 h_S_) main_v4 main_c_1
  let main_v6 : IVec S_ 1 := andi main_v2 main_v5
  let main_c_2 : IVec S_ 32 := constantI S_ 32 0#32
  let main_v7 : IVec S_ 1 := cmpi .sge main_arg2 main_c_2
  let main_c_3 : IVec S_ 32 := constantI S_ 32 13#32
  let main_v8 : IVec S_ 1 := cmpi .sle main_arg2 main_c_3
  let main_v9 : IVec S_ 1 := andi main_v7 main_v8
  let main_v10 : IVec S_ 1 := andi main_v6 main_v9
  main_v10
-- ==== Kernel.lean ====
abbrev S200x200x80 : Shape := ⟨3, ![200, 200, 80]⟩
abbrev S100000x3 : Shape := ⟨2, ![100000, 3]⟩
abbrev S_ : Shape := ⟨0, ![]⟩
abbrev S12x12x12 : Shape := ⟨3, ![12, 12, 12]⟩
abbrev S1728 : Shape := ⟨1, ![1728]⟩
abbrev S100352x3 : Shape := ⟨2, ![100352, 3]⟩
abbrev S100352x1 : Shape := ⟨2, ![100352, 1]⟩
abbrev S100352 : Shape := ⟨1, ![100352]⟩
abbrev S32x16 : Shape := ⟨2, ![32, 16]⟩
abbrev S3136 : Shape := ⟨1, ![3136]⟩
abbrev S16 : Shape := ⟨1, ![16]⟩
abbrev S1x16 : Shape := ⟨2, ![1, 16]⟩

abbrev nBuf : Table → Nat
  | .hbm => 28
  | .local .scVector .vmem => 5
  | _ => 0

abbrev bufTy : (tb : Table) → Fin (nBuf tb) → BufTy
  | .hbm, ⟨0, _⟩ => ⟨S200x200x80, .f32⟩
  | .hbm, ⟨1, _⟩ => ⟨S100000x3, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S12x12x12, .f32⟩
  | .hbm, ⟨13, _⟩ => ⟨S1728, .f32⟩
  | .hbm, ⟨14, _⟩ => ⟨S_, .i32⟩
  | .hbm, ⟨15, _⟩ => ⟨S_, .f32⟩
  | .hbm, ⟨16, _⟩ => ⟨S100352x3, .f32⟩
  | .hbm, ⟨17, _⟩ => ⟨S100352x1, .f32⟩
  | .hbm, ⟨18, _⟩ => ⟨S100352, .f32⟩
  | .hbm, ⟨19, _⟩ => ⟨S100352x1, .f32⟩
  | .hbm, ⟨20, _⟩ => ⟨S100352, .f32⟩
  | .hbm, ⟨21, _⟩ => ⟨S100352x1, .f32⟩
  | .hbm, ⟨22, _⟩ => ⟨S100352, .f32⟩
  | .hbm, ⟨23, _⟩ => ⟨S32x16, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local .scVector .vmem, ⟨0, _⟩ => ⟨S3136, .f32⟩
  | .local .scVector .vmem, ⟨1, _⟩ => ⟨S3136, .f32⟩
  | .local .scVector .vmem, ⟨2, _⟩ => ⟨S3136, .f32⟩
  | .local .scVector .vmem, ⟨3, _⟩ => ⟨S1728, .f32⟩
  | .local .scVector .vmem, ⟨4, _⟩ => ⟨S16, .f32⟩
  | _, _ => ⟨S200x200x80, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_c_2 : Ref sig .tc := ⟨.hbm, 10, rfl⟩
abbrev main_c_3 : Ref sig .tc := ⟨.hbm, 11, rfl⟩
abbrev main_v4 : Ref sig .tc := ⟨.hbm, 12, rfl⟩
abbrev main_v5 : Ref sig .tc := ⟨.hbm, 13, rfl⟩
abbrev main_c_4 : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v8_scv : Ref sig .scVector := ⟨.hbm, 18, rfl⟩
abbrev main_v10_scv : Ref sig .scVector := ⟨.hbm, 20, rfl⟩
abbrev main_v12_scv : Ref sig .scVector := ⟨.hbm, 22, rfl⟩
abbrev main_v5_scv : Ref sig .scVector := ⟨.hbm, 13, rfl⟩
abbrev main_v13_scv : Ref sig .scVector := ⟨.hbm, 23, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  ![v2.toNat]
@[reducible] def k0_t1_loop : Scf.Loop 32 :=
  let c0_i32 : BitVec 32 := 0#32
  let c196_i32 : BitVec 32 := 196#32
  let v5 : BitVec 32 := Scalar.addi c0_i32 c196_i32
  let c1_i32 : BitVec 32 := 1#32
  ⟨c0_i32, v5, c1_i32⟩
def k0_off2 (k0_t1 : Fin k0_t1_loop.trips) : Fin 1 → Nat :=
  let c0_i32 : BitVec 32 := 0#32
  let c1_i32 : BitVec 32 := 1#32
  let arg12 : BitVec 32 := Scf.iv c0_i32 c1_i32 k0_t1
  let c16_i32 : BitVec 32 := 16#32
  let v8 : BitVec 32 := Scalar.muli arg12 c16_i32
  let v9 : Index := Scalar.indexCast v8
  ![v9.toNat]

def k0_chk1 (v75 : IVec S16 32) : Prop :=
  (∀ a x, ((![v75] : Fin 1 → IVec S16 32) a x).toNat < S1728.size a)
theorem k0_idx1_inb : ∀ (v75 : IVec S16 32) (k0_hw1 : k0_chk1 v75), ∀ a x, ((![v75] : Fin 1 → IVec S16 32) a x).toNat < S1728.size a := fun v75 k0_hw1 => k0_hw1

def k0_chk2 (v78 : IVec S16 32) : Prop :=
  (∀ a x, ((![v78] : Fin 1 → IVec S16 32) a x).toNat < S1728.size a)
theorem k0_idx2_inb : ∀ (v78 : IVec S16 32) (k0_hw2 : k0_chk2 v78), ∀ a x, ((![v78] : Fin 1 → IVec S16 32) a x).toNat < S1728.size a := fun v78 k0_hw2 => k0_hw2

def k0_chk3 (v81 : IVec S16 32) : Prop :=
  (∀ a x, ((![v81] : Fin 1 → IVec S16 32) a x).toNat < S1728.size a)
theorem k0_idx3_inb : ∀ (v81 : IVec S16 32) (k0_hw3 : k0_chk3 v81), ∀ a x, ((![v81] : Fin 1 → IVec S16 32) a x).toNat < S1728.size a := fun v81 k0_hw3 => k0_hw3

def k0_chk4 (v84 : IVec S16 32) : Prop :=
  (∀ a x, ((![v84] : Fin 1 → IVec S16 32) a x).toNat < S1728.size a)
theorem k0_idx4_inb : ∀ (v84 : IVec S16 32) (k0_hw4 : k0_chk4 v84), ∀ a x, ((![v84] : Fin 1 → IVec S16 32) a x).toNat < S1728.size a := fun v84 k0_hw4 => k0_hw4

def k0_chk5 (v87 : IVec S16 32) : Prop :=
  (∀ a x, ((![v87] : Fin 1 → IVec S16 32) a x).toNat < S1728.size a)
theorem k0_idx5_inb : ∀ (v87 : IVec S16 32) (k0_hw5 : k0_chk5 v87), ∀ a x, ((![v87] : Fin 1 → IVec S16 32) a x).toNat < S1728.size a := fun v87 k0_hw5 => k0_hw5

def k0_chk6 (v90 : IVec S16 32) : Prop :=
  (∀ a x, ((![v90] : Fin 1 → IVec S16 32) a x).toNat < S1728.size a)
theorem k0_idx6_inb : ∀ (v90 : IVec S16 32) (k0_hw6 : k0_chk6 v90), ∀ a x, ((![v90] : Fin 1 → IVec S16 32) a x).toNat < S1728.size a := fun v90 k0_hw6 => k0_hw6

def k0_chk7 (v93 : IVec S16 32) : Prop :=
  (∀ a x, ((![v93] : Fin 1 → IVec S16 32) a x).toNat < S1728.size a)
theorem k0_idx7_inb : ∀ (v93 : IVec S16 32) (k0_hw7 : k0_chk7 v93), ∀ a x, ((![v93] : Fin 1 → IVec S16 32) a x).toNat < S1728.size a := fun v93 k0_hw7 => k0_hw7

def k0_chk8 (v96 : IVec S16 32) : Prop :=
  (∀ a x, ((![v96] : Fin 1 → IVec S16 32) a x).toNat < S1728.size a)
theorem k0_idx8_inb : ∀ (v96 : IVec S16 32) (k0_hw8 : k0_chk8 v96), ∀ a x, ((![v96] : Fin 1 → IVec S16 32) a x).toNat < S1728.size a := fun v96 k0_hw8 => k0_hw8
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r4 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "tenth" => some ((10⁻¹ : ℝ) : EReal)
  | _ => none
-- ==== ReferenceIdeal.lean ====
abbrev S200x200x80 : Shape := ⟨3, ![200, 200, 80]⟩
abbrev S100000x3 : Shape := ⟨2, ![100000, 3]⟩
abbrev S_ : Shape := ⟨0, ![]⟩
abbrev S1 : Shape := ⟨1, ![1]⟩
abbrev S3 : Shape := ⟨1, ![3]⟩
abbrev S1x3 : Shape := ⟨2, ![1, 3]⟩
abbrev S100000x1 : Shape := ⟨2, ![100000, 1]⟩
abbrev S100000 : Shape := ⟨1, ![100000]⟩
abbrev S1x100000 : Shape := ⟨2, ![1, 100000]⟩
abbrev S8x100000 : Shape := ⟨2, ![8, 100000]⟩
abbrev S100000x8 : Shape := ⟨2, ![100000, 8]⟩
abbrev S100000x8x1 : Shape := ⟨3, ![100000, 8, 1]⟩

abbrev nBuf : Space → Nat
  | .hbm => 423
  | .vmem => 0
  | .smem => 0
  | _ => 0

abbrev hbmTy0_0 (i : Nat) : BufTy := match i % 128 with
  | 0 => ⟨S200x200x80, .f32⟩
  | 1 => ⟨S100000x3, .f32⟩
  | 2 => ⟨S_, .i32⟩
  | 3 => ⟨S_, .f32⟩
  | 4 => ⟨S_, .f32⟩
  | 5 => ⟨S_, .f32⟩
  | 6 => ⟨S_, .f32⟩
  | 7 => ⟨S1, .f32⟩
  | 8 => ⟨S_, .f32⟩
  | 9 => ⟨S1, .f32⟩
  | 10 => ⟨S_, .f32⟩
  | 11 => ⟨S1, .f32⟩
  | 12 => ⟨S3, .f32⟩
  | 13 => ⟨S1x3, .f32⟩
  | 14 => ⟨S100000x3, .f32⟩
  | 15 => ⟨S100000x3, .f32⟩
  | 16 => ⟨S_, .f32⟩
  | 17 => ⟨S100000x3, .f32⟩
  | 18 => ⟨S100000x3, .f32⟩
  | 19 => ⟨S100000x3, .f32⟩
  | 20 => ⟨S100000x1, .f32⟩
  | 21 => ⟨S100000, .f32⟩
  | 22 => ⟨S100000x1, .f32⟩
  | 23 => ⟨S100000, .f32⟩
  | 24 => ⟨S100000x1, .f32⟩
  | 25 => ⟨S100000, .f32⟩
  | 26 => ⟨S_, .f32⟩
  | 27 => ⟨S100000x3, .f32⟩
  | 28 => ⟨S100000x3, .f32⟩
  | 29 => ⟨S100000x3, .f32⟩
  | 30 => ⟨S_, .f32⟩
  | 31 => ⟨S100000x3, .f32⟩
  | 32 => ⟨S100000x3, .f32⟩
  | 33 => ⟨S_, .f32⟩
  | 34 => ⟨S100000x3, .f32⟩
  | 35 => ⟨S100000x3, .f32⟩
  | 36 => ⟨S_, .i32⟩
  | 37 => ⟨S_, .i32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S100000, .i32⟩
  | 45 => ⟨S_, .i32⟩
  | 46 => ⟨S_, .i32⟩
  | 47 => ⟨S_, .f32⟩
  | 48 => ⟨S100000, .f32⟩
  | 49 => ⟨S100000, .f32⟩
  | 50 => ⟨S_, .f32⟩
  | 51 => ⟨S100000, .f32⟩
  | 52 => ⟨S100000, .f32⟩
  | 53 => ⟨S100000, .i32⟩
  | 54 => ⟨S_, .i32⟩
  | 55 => ⟨S_, .i32⟩
  | 56 => ⟨S_, .f32⟩
  | 57 => ⟨S100000, .f32⟩
  | 58 => ⟨S100000, .f32⟩
  | 59 => ⟨S_, .f32⟩
  | 60 => ⟨S100000, .f32⟩
  | 61 => ⟨S100000, .f32⟩
  | 62 => ⟨S100000, .i32⟩
  | 63 => ⟨S_, .f32⟩
  | 64 => ⟨S100000, .f32⟩
  | 65 => ⟨S100000, .f32⟩
  | 66 => ⟨S_, .i32⟩
  | 67 => ⟨S_, .i32⟩
  | 68 => ⟨S_, .f32⟩
  | 69 => ⟨S100000, .f32⟩
  | 70 => ⟨S100000, .f32⟩
  | 71 => ⟨S_, .f32⟩
  | 72 => ⟨S100000, .f32⟩
  | 73 => ⟨S100000, .f32⟩
  | 74 => ⟨S100000, .i32⟩
  | 75 => ⟨S_, .f32⟩
  | 76 => ⟨S100000, .f32⟩
  | 77 => ⟨S100000, .f32⟩
  | 78 => ⟨S_, .i32⟩
  | 79 => ⟨S_, .i32⟩
  | 80 => ⟨S_, .f32⟩
  | 81 => ⟨S100000, .f32⟩
  | 82 => ⟨S100000, .f32⟩
  | 83 => ⟨S_, .f32⟩
  | 84 => ⟨S100000, .f32⟩
  | 85 => ⟨S100000, .f32⟩
  | 86 => ⟨S100000, .i32⟩
  | 87 => ⟨S_, .f32⟩
  | 88 => ⟨S100000, .f32⟩
  | 89 => ⟨S100000, .f32⟩
  | 90 => ⟨S_, .i32⟩
  | 91 => ⟨S_, .i32⟩
  | 92 => ⟨S_, .f32⟩
  | 93 => ⟨S100000, .f32⟩
  | 94 => ⟨S100000, .f32⟩
  | 95 => ⟨S_, .f32⟩
  | 96 => ⟨S100000, .f32⟩
  | 97 => ⟨S100000, .f32⟩
  | 98 => ⟨S100000, .i32⟩
  | 99 => ⟨S_, .i32⟩
  | 100 => ⟨S100000, .i32⟩
  | 101 => ⟨S100000, .i1⟩
  | 102 => ⟨S_, .i32⟩
  | 103 => ⟨S100000, .i32⟩
  | 104 => ⟨S100000, .i32⟩
  | 105 => ⟨S100000, .i32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S100000x1, .i32⟩
  | 122 => ⟨S100000x1, .i32⟩
  | 123 => ⟨S100000x3, .i32⟩
  | 124 => ⟨S100000, .f32⟩
  | 125 => ⟨S_, .i32⟩
  | 126 => ⟨S100000, .i32⟩
  | 127 => ⟨S100000, .i1⟩
  | _ => ⟨S200x200x80, .f32⟩

abbrev hbmTy0_1 (i : Nat) : BufTy := match i % 128 with
  | 0 => ⟨S_, .i32⟩
  | 1 => ⟨S100000, .i32⟩
  | 2 => ⟨S100000, .i32⟩
  | 3 => ⟨S100000, .i32⟩
  | 4 => ⟨S_, .i32⟩
  | 5 => ⟨S100000, .i32⟩
  | 6 => ⟨S100000, .i1⟩
  | 7 => ⟨S_, .i32⟩
  | 8 => ⟨S100000, .i32⟩
  | 9 => ⟨S100000, .i32⟩
  | 10 => ⟨S100000, .i32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x1, .i32⟩
  | 20 => ⟨S100000x1, .i32⟩
  | 21 => ⟨S100000x3, .i32⟩
  | 22 => ⟨S100000, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S100000x1, .i32⟩
  | 46 => ⟨S100000x1, .i32⟩
  | 47 => ⟨S100000x3, .i32⟩
  | 48 => ⟨S100000, .f32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000x1, .i32⟩
  | 72 => ⟨S100000x1, .i32⟩
  | 73 => ⟨S100000x3, .i32⟩
  | 74 => ⟨S100000, .f32⟩
  | 75 => ⟨S_, .i32⟩
  | 76 => ⟨S100000, .i32⟩
  | 77 => ⟨S100000, .i1⟩
  | 78 => ⟨S_, .i32⟩
  | 79 => ⟨S100000, .i32⟩
  | 80 => ⟨S100000, .i32⟩
  | 81 => ⟨S100000, .i32⟩
  | 82 => ⟨S_, .i32⟩
  | 83 => ⟨S100000, .i32⟩
  | 84 => ⟨S100000, .i1⟩
  | 85 => ⟨S_, .i32⟩
  | 86 => ⟨S100000, .i32⟩
  | 87 => ⟨S100000, .i32⟩
  | 88 => ⟨S100000, .i32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S100000x1, .i32⟩
  | 98 => ⟨S100000x1, .i32⟩
  | 99 => ⟨S100000x3, .i32⟩
  | 100 => ⟨S100000, .f32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S_, .i32⟩
  | 116 => ⟨S100000, .i32⟩
  | 117 => ⟨S100000, .i1⟩
  | 118 => ⟨S_, .i32⟩
  | 119 => ⟨S100000, .i32⟩
  | 120 => ⟨S100000, .i32⟩
  | 121 => ⟨S100000, .i32⟩
  | 122 => ⟨S100000x1, .i32⟩
  | 123 => ⟨S100000x1, .i32⟩
  | 124 => ⟨S100000x1, .i32⟩
  | 125 => ⟨S100000x3, .i32⟩
  | 126 => ⟨S100000, .f32⟩
  | 127 => ⟨S_, .i32⟩
  | _ => ⟨S200x200x80, .f32⟩

abbrev hbmTy0_2 (i : Nat) : BufTy := match i % 128 with
  | 0 => ⟨S100000, .i32⟩
  | 1 => ⟨S100000, .i1⟩
  | 2 => ⟨S_, .i32⟩
  | 3 => ⟨S100000, .i32⟩
  | 4 => ⟨S100000, .i32⟩
  | 5 => ⟨S100000, .i32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x1, .i32⟩
  | 22 => ⟨S100000x1, .i32⟩
  | 23 => ⟨S100000x3, .i32⟩
  | 24 => ⟨S100000, .f32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S_, .i32⟩
  | 33 => ⟨S100000, .i32⟩
  | 34 => ⟨S100000, .i1⟩
  | 35 => ⟨S_, .i32⟩
  | 36 => ⟨S100000, .i32⟩
  | 37 => ⟨S100000, .i32⟩
  | 38 => ⟨S100000, .i32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x1, .i32⟩
  | 48 => ⟨S100000x1, .i32⟩
  | 49 => ⟨S100000x3, .i32⟩
  | 50 => ⟨S100000, .f32⟩
  | 51 => ⟨S1x100000, .f32⟩
  | 52 => ⟨S1x100000, .f32⟩
  | 53 => ⟨S1x100000, .f32⟩
  | 54 => ⟨S1x100000, .f32⟩
  | 55 => ⟨S1x100000, .f32⟩
  | 56 => ⟨S1x100000, .f32⟩
  | 57 => ⟨S1x100000, .f32⟩
  | 58 => ⟨S1x100000, .f32⟩
  | 59 => ⟨S8x100000, .f32⟩
  | 60 => ⟨S100000x8, .f32⟩
  | 61 => ⟨S100000x8x1, .f32⟩
  | 62 => ⟨S100000x1, .f32⟩
  | 63 => ⟨S100000, .f32⟩
  | 64 => ⟨S_, .f32⟩
  | 65 => ⟨S100000, .f32⟩
  | 66 => ⟨S100000, .f32⟩
  | 67 => ⟨S_, .f32⟩
  | 68 => ⟨S100000, .f32⟩
  | 69 => ⟨S100000, .f32⟩
  | 70 => ⟨S100000x1, .f32⟩
  | 71 => ⟨S100000, .f32⟩
  | 72 => ⟨S_, .f32⟩
  | 73 => ⟨S100000, .f32⟩
  | 74 => ⟨S100000, .f32⟩
  | 75 => ⟨S_, .f32⟩
  | 76 => ⟨S100000, .f32⟩
  | 77 => ⟨S100000, .f32⟩
  | 78 => ⟨S100000x1, .f32⟩
  | 79 => ⟨S100000, .f32⟩
  | 80 => ⟨S_, .f32⟩
  | 81 => ⟨S100000, .f32⟩
  | 82 => ⟨S100000, .f32⟩
  | 83 => ⟨S_, .f32⟩
  | 84 => ⟨S100000, .f32⟩
  | 85 => ⟨S100000, .f32⟩
  | 86 => ⟨S100000, .f32⟩
  | 87 => ⟨S100000, .f32⟩
  | 88 => ⟨S100000, .f32⟩
  | 89 => ⟨S_, .f32⟩
  | 90 => ⟨S100000, .f32⟩
  | 91 => ⟨S100000, .f32⟩
  | 92 => ⟨S100000, .f32⟩
  | 93 => ⟨S_, .f32⟩
  | 94 => ⟨S100000, .f32⟩
  | 95 => ⟨S100000, .f32⟩
  | 96 => ⟨S100000, .f32⟩
  | 97 => ⟨S100000, .f32⟩
  | 98 => ⟨S_, .f32⟩
  | 99 => ⟨S100000, .f32⟩
  | 100 => ⟨S100000, .f32⟩
  | 101 => ⟨S100000, .f32⟩
  | 102 => ⟨S_, .f32⟩
  | 103 => ⟨S100000, .f32⟩
  | 104 => ⟨S100000, .f32⟩
  | 105 => ⟨S100000, .f32⟩
  | 106 => ⟨S_, .f32⟩
  | 107 => ⟨S100000, .f32⟩
  | 108 => ⟨S100000, .f32⟩
  | 109 => ⟨S100000, .f32⟩
  | 110 => ⟨S100000, .f32⟩
  | 111 => ⟨S_, .f32⟩
  | 112 => ⟨S100000, .f32⟩
  | 113 => ⟨S100000, .f32⟩
  | 114 => ⟨S100000, .f32⟩
  | 115 => ⟨S_, .f32⟩
  | 116 => ⟨S100000, .f32⟩
  | 117 => ⟨S100000, .f32⟩
  | 118 => ⟨S100000, .f32⟩
  | 119 => ⟨S_, .f32⟩
  | 120 => ⟨S100000, .f32⟩
  | 121 => ⟨S100000, .f32⟩
  | 122 => ⟨S_, .f32⟩
  | 123 => ⟨S100000, .f32⟩
  | 124 => ⟨S100000, .f32⟩
  | 125 => ⟨S100000, .f32⟩
  | 126 => ⟨S100000, .f32⟩
  | 127 => ⟨S_, .f32⟩
  | _ => ⟨S200x200x80, .f32⟩

abbrev hbmTy0_3 (i : Nat) : BufTy := match i % 128 with
  | 0 => ⟨S100000, .f32⟩
  | 1 => ⟨S100000, .f32⟩
  | 2 => ⟨S_, .f32⟩
  | 3 => ⟨S100000, .f32⟩
  | 4 => ⟨S100000, .f32⟩
  | 5 => ⟨S100000, .f32⟩
  | 6 => ⟨S_, .f32⟩
  | 7 => ⟨S100000, .f32⟩
  | 8 => ⟨S100000, .f32⟩
  | 9 => ⟨S100000, .f32⟩
  | 10 => ⟨S100000x1, .f32⟩
  | 11 => ⟨S100000x1, .f32⟩
  | 12 => ⟨S100000x1, .f32⟩
  | 13 => ⟨S100000x1, .f32⟩
  | 14 => ⟨S100000x1, .f32⟩
  | 15 => ⟨S100000x1, .f32⟩
  | 16 => ⟨S100000x1, .f32⟩
  | 17 => ⟨S100000x1, .f32⟩
  | 18 => ⟨S100000x8, .f32⟩
  | 19 => ⟨S100000x8x1, .f32⟩
  | 20 => ⟨S100000x8x1, .f32⟩
  | 21 => ⟨S_, .f32⟩
  | 22 => ⟨S100000x1, .f32⟩
  | 23 => ⟨S100000x1, .f32⟩
  | 24 => ⟨S_, .f32⟩
  | 25 => ⟨S100000x1, .f32⟩
  | 26 => ⟨S100000x1, .i1⟩
  | 27 => ⟨S_, .f32⟩
  | 28 => ⟨S100000x1, .f32⟩
  | 29 => ⟨S100000x1, .f32⟩
  | 30 => ⟨S100000x1, .f32⟩
  | 31 => ⟨S_, .f32⟩
  | 32 => ⟨S100000x1, .f32⟩
  | 33 => ⟨S100000x1, .f32⟩
  | 34 => ⟨S100000x1, .f32⟩
  | 35 => ⟨S_, .f32⟩
  | 36 => ⟨S_, .f32⟩
  | 37 => ⟨S_, .f32⟩
  | 38 => ⟨S_, .f32⟩
  | _ => ⟨S200x200x80, .f32⟩

abbrev hbmTy (i : Nat) : BufTy := match i / 128 with
  | 0 => hbmTy0_0 i
  | 1 => hbmTy0_1 i
  | 2 => hbmTy0_2 i
  | 3 => hbmTy0_3 i
  | _ => ⟨S200x200x80, .f32⟩

abbrev bufTy : (tb : Table) → Fin (tcTables nBuf tb) → BufTy
  | .hbm, ⟨i, _⟩ => hbmTy i
  | _, _ => ⟨S200x200x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_c_6 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_c_8 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_c_10 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v30 : Ref sig .tc := ⟨.hbm, 61, rfl⟩
abbrev main_v31 : Ref sig .tc := ⟨.hbm, 62, rfl⟩
abbrev main_cst_11 : Ref sig .tc := ⟨.hbm, 63, rfl⟩
abbrev main_v32 : Ref sig .tc := ⟨.hbm, 64, rfl⟩
abbrev main_v33 : Ref sig .tc := ⟨.hbm, 65, rfl⟩
abbrev main_c_12 : Ref sig .tc := ⟨.hbm, 66, rfl⟩
abbrev main_c_13 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v34 : Ref sig .tc := ⟨.hbm, 73, rfl⟩
abbrev main_v35 : Ref sig .tc := ⟨.hbm, 74, rfl⟩
abbrev main_cst_14 : Ref sig .tc := ⟨.hbm, 75, rfl⟩
abbrev main_v36 : Ref sig .tc := ⟨.hbm, 76, rfl⟩
abbrev main_v37 : Ref sig .tc := ⟨.hbm, 77, rfl⟩
abbrev main_c_15 : Ref sig .tc := ⟨.hbm, 78, rfl⟩
abbrev main_c_16 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_v38 : Ref sig .tc := ⟨.hbm, 85, rfl⟩
abbrev main_v39 : Ref sig .tc := ⟨.hbm, 86, rfl⟩
abbrev main_cst_17 : Ref sig .tc := ⟨.hbm, 87, rfl⟩
abbrev main_v40 : Ref sig .tc := ⟨.hbm, 88, rfl⟩
abbrev main_v41 : Ref sig .tc := ⟨.hbm, 89, rfl⟩
abbrev main_c_18 : Ref sig .tc := ⟨.hbm, 90, rfl⟩
abbrev main_c_19 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_v42 : Ref sig .tc := ⟨.hbm, 97, rfl⟩
abbrev main_v43 : Ref sig .tc := ⟨.hbm, 98, rfl⟩
abbrev main_c_20 : Ref sig .tc := ⟨.hbm, 99, rfl⟩
abbrev main_v44 : Ref sig .tc := ⟨.hbm, 100, rfl⟩
abbrev main_v45 : Ref sig .tc := ⟨.hbm, 101, rfl⟩
abbrev main_c_21 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_c_22 : Ref sig .tc := ⟨.hbm, 106, rfl⟩
abbrev main_v49 : Ref sig .tc := ⟨.hbm, 107, rfl⟩
abbrev main_v50 : Ref sig .tc := ⟨.hbm, 108, rfl⟩
abbrev main_c_23 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_c_24 : Ref sig .tc := ⟨.hbm, 113, rfl⟩
abbrev main_v54 : Ref sig .tc := ⟨.hbm, 114, rfl⟩
abbrev main_v55 : Ref sig .tc := ⟨.hbm, 115, rfl⟩
abbrev main_c_25 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_c_26 : Ref sig .tc := ⟨.hbm, 125, rfl⟩
abbrev main_v64 : Ref sig .tc := ⟨.hbm, 126, rfl⟩
abbrev main_v65 : Ref sig .tc := ⟨.hbm, 127, rfl⟩
abbrev main_c_27 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_c_28 : Ref sig .tc := ⟨.hbm, 132, rfl⟩
abbrev main_v69 : Ref sig .tc := ⟨.hbm, 133, rfl⟩
abbrev main_v70 : Ref sig .tc := ⟨.hbm, 134, rfl⟩
abbrev main_c_29 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_c_30 : Ref sig .tc := ⟨.hbm, 139, rfl⟩
abbrev main_v74 : Ref sig .tc := ⟨.hbm, 140, rfl⟩
abbrev main_v75 : Ref sig .tc := ⟨.hbm, 141, rfl⟩
abbrev main_c_31 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_c_32 : Ref sig .tc := ⟨.hbm, 151, rfl⟩
abbrev main_v84 : Ref sig .tc := ⟨.hbm, 152, rfl⟩
abbrev main_v85 : Ref sig .tc := ⟨.hbm, 153, rfl⟩
abbrev main_c_33 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_c_34 : Ref sig .tc := ⟨.hbm, 158, rfl⟩
abbrev main_v89 : Ref sig .tc := ⟨.hbm, 159, rfl⟩
abbrev main_v90 : Ref sig .tc := ⟨.hbm, 160, rfl⟩
abbrev main_c_35 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_c_36 : Ref sig .tc := ⟨.hbm, 165, rfl⟩
abbrev main_v94 : Ref sig .tc := ⟨.hbm, 166, rfl⟩
abbrev main_v95 : Ref sig .tc := ⟨.hbm, 167, rfl⟩
abbrev main_c_37 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_c_38 : Ref sig .tc := ⟨.hbm, 177, rfl⟩
abbrev main_v104 : Ref sig .tc := ⟨.hbm, 178, rfl⟩
abbrev main_v105 : Ref sig .tc := ⟨.hbm, 179, rfl⟩
abbrev main_c_39 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_c_40 : Ref sig .tc := ⟨.hbm, 184, rfl⟩
abbrev main_v109 : Ref sig .tc := ⟨.hbm, 185, rfl⟩
abbrev main_v110 : Ref sig .tc := ⟨.hbm, 186, rfl⟩
abbrev main_c_41 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_c_42 : Ref sig .tc := ⟨.hbm, 191, rfl⟩
abbrev main_v114 : Ref sig .tc := ⟨.hbm, 192, rfl⟩
abbrev main_v115 : Ref sig .tc := ⟨.hbm, 193, rfl⟩
abbrev main_c_43 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_c_44 : Ref sig .tc := ⟨.hbm, 203, rfl⟩
abbrev main_v124 : Ref sig .tc := ⟨.hbm, 204, rfl⟩
abbrev main_v125 : Ref sig .tc := ⟨.hbm, 205, rfl⟩
abbrev main_c_45 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_c_46 : Ref sig .tc := ⟨.hbm, 210, rfl⟩
abbrev main_v129 : Ref sig .tc := ⟨.hbm, 211, rfl⟩
abbrev main_v130 : Ref sig .tc := ⟨.hbm, 212, rfl⟩
abbrev main_c_47 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_c_48 : Ref sig .tc := ⟨.hbm, 217, rfl⟩
abbrev main_v134 : Ref sig .tc := ⟨.hbm, 218, rfl⟩
abbrev main_v135 : Ref sig .tc := ⟨.hbm, 219, rfl⟩
abbrev main_c_49 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_c_50 : Ref sig .tc := ⟨.hbm, 229, rfl⟩
abbrev main_v144 : Ref sig .tc := ⟨.hbm, 230, rfl⟩
abbrev main_v145 : Ref sig .tc := ⟨.hbm, 231, rfl⟩
abbrev main_c_51 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_c_52 : Ref sig .tc := ⟨.hbm, 236, rfl⟩
abbrev main_v149 : Ref sig .tc := ⟨.hbm, 237, rfl⟩
abbrev main_v150 : Ref sig .tc := ⟨.hbm, 238, rfl⟩
abbrev main_c_53 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_c_54 : Ref sig .tc := ⟨.hbm, 243, rfl⟩
abbrev main_v154 : Ref sig .tc := ⟨.hbm, 244, rfl⟩
abbrev main_v155 : Ref sig .tc := ⟨.hbm, 245, rfl⟩
abbrev main_c_55 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_c_56 : Ref sig .tc := ⟨.hbm, 255, rfl⟩
abbrev main_v164 : Ref sig .tc := ⟨.hbm, 256, rfl⟩
abbrev main_v165 : Ref sig .tc := ⟨.hbm, 257, rfl⟩
abbrev main_c_57 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_c_58 : Ref sig .tc := ⟨.hbm, 262, rfl⟩
abbrev main_v169 : Ref sig .tc := ⟨.hbm, 263, rfl⟩
abbrev main_v170 : Ref sig .tc := ⟨.hbm, 264, rfl⟩
abbrev main_c_59 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_c_60 : Ref sig .tc := ⟨.hbm, 269, rfl⟩
abbrev main_v174 : Ref sig .tc := ⟨.hbm, 270, rfl⟩
abbrev main_v175 : Ref sig .tc := ⟨.hbm, 271, rfl⟩
abbrev main_c_61 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_c_62 : Ref sig .tc := ⟨.hbm, 281, rfl⟩
abbrev main_v184 : Ref sig .tc := ⟨.hbm, 282, rfl⟩
abbrev main_v185 : Ref sig .tc := ⟨.hbm, 283, rfl⟩
abbrev main_c_63 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_c_64 : Ref sig .tc := ⟨.hbm, 288, rfl⟩
abbrev main_v189 : Ref sig .tc := ⟨.hbm, 289, rfl⟩
abbrev main_v190 : Ref sig .tc := ⟨.hbm, 290, rfl⟩
abbrev main_c_65 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_c_66 : Ref sig .tc := ⟨.hbm, 295, rfl⟩
abbrev main_v194 : Ref sig .tc := ⟨.hbm, 296, rfl⟩
abbrev main_v195 : Ref sig .tc := ⟨.hbm, 297, rfl⟩
abbrev main_c_67 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_cst_68 : Ref sig .tc := ⟨.hbm, 320, rfl⟩
abbrev main_v217 : Ref sig .tc := ⟨.hbm, 321, rfl⟩
abbrev main_v218 : Ref sig .tc := ⟨.hbm, 322, rfl⟩
abbrev main_cst_69 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_v222 : Ref sig .tc := ⟨.hbm, 327, rfl⟩
abbrev main_cst_70 : Ref sig .tc := ⟨.hbm, 328, rfl⟩
abbrev main_v223 : Ref sig .tc := ⟨.hbm, 329, rfl⟩
abbrev main_v224 : Ref sig .tc := ⟨.hbm, 330, rfl⟩
abbrev main_cst_71 : Ref sig .tc := ⟨.hbm, 331, rfl⟩
abbrev main_v225 : Ref sig .tc := ⟨.hbm, 332, rfl⟩
abbrev main_v226 : Ref sig .tc := ⟨.hbm, 333, rfl⟩
abbrev main_v227 : Ref sig .tc := ⟨.hbm, 334, rfl⟩
abbrev main_v228 : Ref sig .tc := ⟨.hbm, 335, rfl⟩
abbrev main_cst_72 : Ref sig .tc := ⟨.hbm, 336, rfl⟩
abbrev main_v229 : Ref sig .tc := ⟨.hbm, 337, rfl⟩
abbrev main_v230 : Ref sig .tc := ⟨.hbm, 338, rfl⟩
abbrev main_cst_73 : Ref sig .tc := ⟨.hbm, 339, rfl⟩
abbrev main_v231 : Ref sig .tc := ⟨.hbm, 340, rfl⟩
abbrev main_v232 : Ref sig .tc := ⟨.hbm, 341, rfl⟩
abbrev main_v233 : Ref sig .tc := ⟨.hbm, 342, rfl⟩
abbrev main_v234 : Ref sig .tc := ⟨.hbm, 343, rfl⟩
abbrev main_v235 : Ref sig .tc := ⟨.hbm, 344, rfl⟩
abbrev main_cst_74 : Ref sig .tc := ⟨.hbm, 345, rfl⟩
abbrev main_v236 : Ref sig .tc := ⟨.hbm, 346, rfl⟩
abbrev main_v237 : Ref sig .tc := ⟨.hbm, 347, rfl⟩
abbrev main_v238 : Ref sig .tc := ⟨.hbm, 348, rfl⟩
abbrev main_cst_75 : Ref sig .tc := ⟨.hbm, 349, rfl⟩
abbrev main_v239 : Ref sig .tc := ⟨.hbm, 350, rfl⟩
abbrev main_v240 : Ref sig .tc := ⟨.hbm, 351, rfl⟩
abbrev main_v241 : Ref sig .tc := ⟨.hbm, 352, rfl⟩
abbrev main_v242 : Ref sig .tc := ⟨.hbm, 353, rfl⟩
abbrev main_cst_76 : Ref sig .tc := ⟨.hbm, 354, rfl⟩
abbrev main_v243 : Ref sig .tc := ⟨.hbm, 355, rfl⟩
abbrev main_v244 : Ref sig .tc := ⟨.hbm, 356, rfl⟩
abbrev main_v245 : Ref sig .tc := ⟨.hbm, 357, rfl⟩
abbrev main_cst_77 : Ref sig .tc := ⟨.hbm, 358, rfl⟩
abbrev main_v246 : Ref sig .tc := ⟨.hbm, 359, rfl⟩
abbrev main_v247 : Ref sig .tc := ⟨.hbm, 360, rfl⟩
abbrev main_v248 : Ref sig .tc := ⟨.hbm, 361, rfl⟩
abbrev main_cst_78 : Ref sig .tc := ⟨.hbm, 362, rfl⟩
abbrev main_v249 : Ref sig .tc := ⟨.hbm, 363, rfl⟩
abbrev main_v250 : Ref sig .tc := ⟨.hbm, 364, rfl⟩
abbrev main_v251 : Ref sig .tc := ⟨.hbm, 365, rfl⟩
abbrev main_v252 : Ref sig .tc := ⟨.hbm, 366, rfl⟩
abbrev main_cst_79 : Ref sig .tc := ⟨.hbm, 367, rfl⟩
abbrev main_v253 : Ref sig .tc := ⟨.hbm, 368, rfl⟩
abbrev main_v254 : Ref sig .tc := ⟨.hbm, 369, rfl⟩
abbrev main_v255 : Ref sig .tc := ⟨.hbm, 370, rfl⟩
abbrev main_cst_80 : Ref sig .tc := ⟨.hbm, 371, rfl⟩
abbrev main_v256 : Ref sig .tc := ⟨.hbm, 372, rfl⟩
abbrev main_v257 : Ref sig .tc := ⟨.hbm, 373, rfl⟩
abbrev main_v258 : Ref sig .tc := ⟨.hbm, 374, rfl⟩
abbrev main_cst_81 : Ref sig .tc := ⟨.hbm, 375, rfl⟩
abbrev main_v259 : Ref sig .tc := ⟨.hbm, 376, rfl⟩
abbrev main_v260 : Ref sig .tc := ⟨.hbm, 377, rfl⟩
abbrev main_cst_82 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_v264 : Ref sig .tc := ⟨.hbm, 382, rfl⟩
abbrev main_cst_83 : Ref sig .tc := ⟨.hbm, 383, rfl⟩
abbrev main_v265 : Ref sig .tc := ⟨.hbm, 384, rfl⟩
abbrev main_v266 : Ref sig .tc := ⟨.hbm, 385, rfl⟩
abbrev main_cst_84 : Ref sig .tc := ⟨.hbm, 386, rfl⟩
abbrev main_v267 : Ref sig .tc := ⟨.hbm, 387, rfl⟩
abbrev main_v268 : Ref sig .tc := ⟨.hbm, 388, rfl⟩
abbrev main_v269 : Ref sig .tc := ⟨.hbm, 389, rfl⟩
abbrev main_cst_85 : Ref sig .tc := ⟨.hbm, 390, rfl⟩
abbrev main_v270 : Ref sig .tc := ⟨.hbm, 391, rfl⟩
abbrev main_v271 : Ref sig .tc := ⟨.hbm, 392, rfl⟩
abbrev main_v272 : Ref sig .tc := ⟨.hbm, 393, rfl⟩
abbrev main_v273 : Ref sig .tc := ⟨.hbm, 394, rfl⟩
abbrev main_v274 : Ref sig .tc := ⟨.hbm, 395, rfl⟩
abbrev main_v275 : Ref sig .tc := ⟨.hbm, 396, rfl⟩
abbrev main_v276 : Ref sig .tc := ⟨.hbm, 397, rfl⟩
abbrev main_v277 : Ref sig .tc := ⟨.hbm, 398, rfl⟩
abbrev main_v278 : Ref sig .tc := ⟨.hbm, 399, rfl⟩
abbrev main_v279 : Ref sig .tc := ⟨.hbm, 400, rfl⟩
abbrev main_v280 : Ref sig .tc := ⟨.hbm, 401, rfl⟩
abbrev main_v281 : Ref sig .tc := ⟨.hbm, 402, rfl⟩
abbrev main_v282 : Ref sig .tc := ⟨.hbm, 403, rfl⟩
abbrev main_v283 : Ref sig .tc := ⟨.hbm, 404, rfl⟩
abbrev main_cst_86 : Ref sig .tc := ⟨.hbm, 405, rfl⟩
abbrev main_v284 : Ref sig .tc := ⟨.hbm, 406, rfl⟩
abbrev main_v285 : Ref sig .tc := ⟨.hbm, 407, rfl⟩
abbrev main_cst_87 : Ref sig .tc := ⟨.hbm, 408, rfl⟩
abbrev main_v286 : Ref sig .tc := ⟨.hbm, 409, rfl⟩
abbrev main_v287 : Ref sig .tc := ⟨.hbm, 410, rfl⟩
abbrev main_cst_88 : Ref sig .tc := ⟨.hbm, 411, rfl⟩
abbrev main_v288 : Ref sig .tc := ⟨.hbm, 412, rfl⟩
abbrev main_v289 : Ref sig .tc := ⟨.hbm, 413, rfl⟩
abbrev main_v290 : Ref sig .tc := ⟨.hbm, 414, rfl⟩
abbrev main_cst_89 : Ref sig .tc := ⟨.hbm, 415, rfl⟩
abbrev main_v291 : Ref sig .tc := ⟨.hbm, 416, rfl⟩
abbrev main_v292 : Ref sig .tc := ⟨.hbm, 417, rfl⟩
abbrev main_v293 : Ref sig .tc := ⟨.hbm, 418, rfl⟩
abbrev main_cst_90 : Ref sig .tc := ⟨.hbm, 419, rfl⟩
abbrev main_v294 : Ref sig .tc := ⟨.hbm, 420, rfl⟩
abbrev main_cst_91 : Ref sig .tc := ⟨.hbm, 421, rfl⟩
abbrev main_v295 : Ref sig .tc := ⟨.hbm, 422, rfl⟩

abbrev nD : Nat := 1
abbrev τ : Topo := Topo.v7x

variable {F : FTy → Type} [FloatOps F]
-- ==== Proof.Trip.lean ====
/-
  One trip of the tile's loop as a function of what the tile's scratches hold.

  A trip loads 16 lanes of x, y and z, turns each into a cell number held between 0 and 11, looks the eight corners up in
  the 12 by 12 by 12 table and adds the lanes' value to the running sum. `k0_bound` shows that every corner's position is
  below 1728, whatever the lanes hold, so each check the program makes before a lookup passes with no assumption on the
  inputs. `tripAcc` is the sum after a trip, `tileAcc` the sum after the first `k` trips.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.IdealRun

open Cert.KernelIdeal Cert.KernelIdeal.Gen
open Idealize.ShloMosaic

variable {F : FTy → Type} [FloatOps F] [Named F]

/-! ## The corners' positions -/

/-- A word held between 0 and 11 (as a signed number) is at most 11 as an unsigned one. -/
theorem clamp_le (w : BitVec 32) : (IntOp.minsi (IntOp.maxsi w 0#32) 11#32).toNat ≤ 11 := by
  unfold IntOp.minsi IntOp.maxsi
  by_cases h : (0#32).slt w = true
  · rw [if_pos h]
    by_cases h' : w.slt 11#32 = true
    · rw [if_pos h']
      simp only [BitVec.slt_eq_decide, decide_eq_true_eq, BitVec.toInt_eq_toNat_cond, BitVec.toNat_ofNat, Nat.reducePow, Nat.reduceMod] at h h'
      omega
    · rw [if_neg h']; decide
  · rw [if_neg h]; decide

/-- One more than such a word, held below 11. -/
theorem next_le {w : BitVec 32} (h : w.toNat ≤ 11) : (IntOp.minsi (IntOp.addi w 1#32) 11#32).toNat ≤ 11 := by
  unfold IntOp.minsi IntOp.addi
  split
  · rename_i h'
    simp only [BitVec.slt_eq_decide, decide_eq_true_eq, BitVec.toInt_eq_toNat_cond, BitVec.toNat_add, BitVec.toNat_ofNat, Nat.reducePow, Nat.reduceMod] at h' ⊢
    omega
  · decide

/-- The position `a·144 + b·12 + c` of three such words. -/
theorem pos_toNat {a b c : BitVec 32} (ha : a.toNat ≤ 11) (hb : b.toNat ≤ 11) (hc : c.toNat ≤ 11) :
    (IntOp.addi (IntOp.addi (IntOp.muli a 144#32) (IntOp.muli b 12#32)) c).toNat = a.toNat * 144 + b.toNat * 12 + c.toNat := by
  unfold IntOp.addi IntOp.muli
  simp only [BitVec.toNat_add, BitVec.toNat_mul, BitVec.toNat_ofNat, Nat.reducePow, Nat.reduceMod]
  omega

/-- Every corner's position is inside the table. -/
theorem k0_bound {a b c v : IVec S16 32} (hv : ∀ x, v x = IntOp.addi (IntOp.addi (IntOp.muli (a x) 144#32) (IntOp.muli (b x) 12#32)) (c x))
    (ha : ∀ x, (a x).toNat ≤ 11) (hb : ∀ x, (b x).toNat ≤ 11) (hc : ∀ x, (c x).toNat ≤ 11) :
    ∀ (r : Fin 1) x, ((![v] : Fin 1 → IVec S16 32) r x).toNat < S1728.size r := by
  intro r x
  obtain rfl : r = 0 := Subsingleton.elim _ _
  show (v x).toNat < 1728
  rw [hv, pos_toNat (ha x) (hb x) (hc x)]
  have := ha x; have := hb x; have := hc x
  omega

theorem xl_le (v : Vec F S16 .f32) (x : S16.Idx) : (k0_pay3 v x).toNat ≤ 11 := clamp_le _
theorem xn_le (v : Vec F S16 .f32) (x : S16.Idx) : (k0_pay4 v x).toNat ≤ 11 := next_le (xl_le v x)
theorem yl_le (v : Vec F S16 .f32) (x : S16.Idx) : (k0_pay6 v x).toNat ≤ 11 := clamp_le _
theorem yn_le (v : Vec F S16 .f32) (x : S16.Idx) : (k0_pay7 v x).toNat ≤ 11 := next_le (yl_le v x)
theorem zl_le (v : FVec F S16 .f32) (x : S16.Idx) : (k0_pay10 v x).toNat ≤ 11 := clamp_le _
theorem zn_le (v : FVec F S16 .f32) (x : S16.Idx) : (k0_pay11 v x).toNat ≤ 11 := next_le (zl_le v x)

variable (x y z : Vec F S16 .f32)

theorem hold1 : k0_chk1 (k0_pay17 (k0_pay4 x) (k0_pay7 y) (k0_pay9 z)) := k0_bound (fun _ => rfl) (xn_le x) (yn_le y) (zn_le _)
theorem hold2 : k0_chk2 (k0_pay18 (k0_pay4 x) (k0_pay7 y) (k0_pay9 z)) := k0_bound (fun _ => rfl) (xn_le x) (yn_le y) (zl_le _)
theorem hold3 : k0_chk3 (k0_pay19 (k0_pay4 x) (k0_pay6 y) (k0_pay9 z)) := k0_bound (fun _ => rfl) (xn_le x) (yl_le y) (zn_le _)
theorem hold4 : k0_chk4 (k0_pay20 (k0_pay4 x) (k0_pay6 y) (k0_pay9 z)) := k0_bound (fun _ => rfl) (xn_le x) (yl_le y) (zl_le _)
theorem hold5 : k0_chk5 (k0_pay21 (k0_pay3 x) (k0_pay7 y) (k0_pay9 z)) := k0_bound (fun _ => rfl) (xl_le x) (yn_le y) (zn_le _)
theorem hold6 : k0_chk6 (k0_pay22 (k0_pay3 x) (k0_pay7 y) (k0_pay9 z)) := k0_bound (fun _ => rfl) (xl_le x) (yn_le y) (zl_le _)
theorem hold7 : k0_chk7 (k0_pay23 (k0_pay3 x) (k0_pay6 y) (k0_pay9 z)) := k0_bound (fun _ => rfl) (xl_le x) (yl_le y) (zn_le _)
theorem hold8 : k0_chk8 (k0_pay24 (k0_pay10 (k0_pay9 z)) (k0_pay13 (k0_pay3 x)) (k0_pay15 (k0_pay6 y))) :=
  k0_bound (fun _ => rfl) (xl_le x) (yl_le y) (zl_le _)

/-! ## A trip -/

/-- The lanes' value at x, y, z, with the table `T`: the eight corners' entries weighted, then the Huber value. -/
def laneVal (T : FVec F S1728 .f32) : FVec F S16 .f32 :=
  k0_pay25 (k0_pay5 x) (k0_pay8 y) (k0_pay12 z (k0_pay9 z))
    (loadIdx T ![k0_pay17 (k0_pay4 x) (k0_pay7 y) (k0_pay9 z)] (hold1 x y z))
    (loadIdx T ![k0_pay18 (k0_pay4 x) (k0_pay7 y) (k0_pay9 z)] (hold2 x y z))
    (loadIdx T ![k0_pay19 (k0_pay4 x) (k0_pay6 y) (k0_pay9 z)] (hold3 x y z))
    (loadIdx T ![k0_pay20 (k0_pay4 x) (k0_pay6 y) (k0_pay9 z)] (hold4 x y z))
    (loadIdx T ![k0_pay21 (k0_pay3 x) (k0_pay7 y) (k0_pay9 z)] (hold5 x y z))
    (loadIdx T ![k0_pay22 (k0_pay3 x) (k0_pay7 y) (k0_pay9 z)] (hold6 x y z))
    (loadIdx T ![k0_pay23 (k0_pay3 x) (k0_pay6 y) (k0_pay9 z)] (hold7 x y z))
    (loadIdx T ![k0_pay24 (k0_pay10 (k0_pay9 z)) (k0_pay13 (k0_pay3 x)) (k0_pay15 (k0_pay6 y))] (hold8 x y z))

/-- Lanes `16 k` to `16 k + 15` of a slice of 3136. -/
def lanes (X : FVec F S3136 .f32) (k : ℕ) : FVec F S16 .f32 :=
  fun j => X (fun | 0 => ⟨(16 * k + (j 0).val) % 3136, Nat.mod_lt _ (by decide)⟩)

/-- Tile `w`'s 3136 of the 100352 points. -/
def slice (X : FVec F S100352 .f32) (w : ℕ) : FVec F S3136 .f32 :=
  fun j => X (fun | 0 => ⟨(3136 * w + (j 0).val) % 100352, Nat.mod_lt _ (by decide)⟩)

/-- The lane numbers 0 to 15. -/
def laneNo : IVec S16 32 := iota .scVector S16 32 [0] iota_S16_d0_w32_scVector

/-- Which lanes of tile `w`'s trip `k` are points of the cloud: those numbered below 100000. -/
def laneMask (w k : ℕ) : IVec S16 1 :=
  k0_pay26 (BitVec.ofNat 32 (3136 * w)) laneNo (Scalar.muli (Scf.iv 0#32 1#32 k) 16#32)

/-- The running sum after trip `k`, from the sum before it. -/
def tripAcc (w : ℕ) (X Y Z : FVec F S3136 .f32) (T : FVec F S1728 .f32) (k : ℕ) (acc : FVec F S16 .f32) : FVec F S16 .f32 :=
  k0_pay2 acc (laneVal (lanes X k) (lanes Y k) (lanes Z k) T) (laneMask w k) (Scalar.ofBits .f32 0x00000000#32)

/-- The running sum after the first `k` trips. -/
def tileAcc (w : ℕ) (X Y Z : FVec F S3136 .f32) (T : FVec F S1728 .f32) : ℕ → FVec F S16 .f32
  | 0 => k0_pay1
  | k + 1 => tripAcc w X Y Z T k (tileAcc w X Y Z T k)

/-- The 32 tiles' sums, a row each. -/
def outArr (X Y Z : FVec F S100352 .f32) (T : FVec F S1728 .f32) : FVec F S32x16 .f32 :=
  fun p => tileAcc (p 0).val (slice X (p 0).val) (slice Y (p 0).val) (slice Z (p 0).val) T 196 (fun | 0 => ⟨(p 1).val, (p 1).isLt⟩)

/-- The tile at core `c` and subcore `s` is number `2 s + c`; its first point, as the program computes it. -/
theorem tileBase_eq (c s : ℕ) (hc : c < 2) (hs : s < 16) :
    Scalar.muli (Scalar.addi (Scalar.muli (BitVec.ofNat 32 s) 2#32) (BitVec.ofNat 32 c)) 3136#32 = BitVec.ofNat 32 (3136 * (2 * s + c)) := by
  apply BitVec.eq_of_toNat_eq
  simp only [Scalar.muli, Scalar.addi, IntOp.muli, IntOp.addi, BitVec.toNat_add, BitVec.toNat_mul, BitVec.toNat_ofNat, Nat.reducePow, Nat.reduceMod]
  omega

end Cert.Proof.IdealRun

end
-- ==== Proof.Tile.lean ====
/-
  The tile's task, run: from a share of the four arrays it reads and its row of the result, to that row holding the
  tile's sums. Four copies in, the loop (`inv`: the running sum is `tileAcc` of the trips done), the sum stored, one copy
  out.
-/
module

public import proofs.«01_k».proof.Proof.Trip

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratches -/

local notation "xV" => (Memref.whole Cert.KernelIdeal.main_v8_scv : Memref Cert.KernelIdeal.sig Kind.scVector Space.hbm Cert.KernelIdeal.S100352 EltTy.f32)
local notation "yV" => (Memref.whole Cert.KernelIdeal.main_v10_scv : Memref Cert.KernelIdeal.sig Kind.scVector Space.hbm Cert.KernelIdeal.S100352 EltTy.f32)
local notation "zV" => (Memref.whole Cert.KernelIdeal.main_v12_scv : Memref Cert.KernelIdeal.sig Kind.scVector Space.hbm Cert.KernelIdeal.S100352 EltTy.f32)
local notation "tV" => (Memref.whole Cert.KernelIdeal.main_v5_scv : Memref Cert.KernelIdeal.sig Kind.scVector Space.hbm Cert.KernelIdeal.S1728 EltTy.f32)
local notation "oV" => (Memref.whole Cert.KernelIdeal.main_v13_scv : Memref Cert.KernelIdeal.sig Kind.scVector Space.hbm Cert.KernelIdeal.S32x16 EltTy.f32)
local notation "sX" => (Memref.whole Cert.KernelIdeal.cc0_scratch0 : Memref Cert.KernelIdeal.sig Kind.scVector Space.vmem Cert.KernelIdeal.S3136 EltTy.f32)
local notation "sY" => (Memref.whole Cert.KernelIdeal.cc0_scratch1 : Memref Cert.KernelIdeal.sig Kind.scVector Space.vmem Cert.KernelIdeal.S3136 EltTy.f32)
local notation "sZ" => (Memref.whole Cert.KernelIdeal.cc0_scratch2 : Memref Cert.KernelIdeal.sig Kind.scVector Space.vmem Cert.KernelIdeal.S3136 EltTy.f32)
local notation "sT" => (Memref.whole Cert.KernelIdeal.cc0_scratch3 : Memref Cert.KernelIdeal.sig Kind.scVector Space.vmem Cert.KernelIdeal.S1728 EltTy.f32)
local notation "sA" => (Memref.whole Cert.KernelIdeal.cc0_scratch4 : Memref Cert.KernelIdeal.sig Kind.scVector Space.vmem Cert.KernelIdeal.S16 EltTy.f32)

abbrev xLoc (d : Dev nD) : Loc nD τ sig := (SparseCore.T d).loc main_v8
abbrev yLoc (d : Dev nD) : Loc nD τ sig := (SparseCore.T d).loc main_v10
abbrev zLoc (d : Dev nD) : Loc nD τ sig := (SparseCore.T d).loc main_v12
abbrev tLoc (d : Dev nD) : Loc nD τ sig := (SparseCore.T d).loc main_v5
abbrev oLoc (d : Dev nD) : Loc nD τ sig := (SparseCore.T d).loc main_v13

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)
/-- The tile's number. -/
abbrev wid (L : grid0.Coords) : ℕ := 2 * (L 1).val + (L 0).val

theorem hdiv : 32 ∣ S32x16.size 0 := ⟨1, rfl⟩
/-- Row `i` of the result, and its places. -/
abbrev row (i : Fin 32) : Rect S32x16 := Rect.part (s := S32x16) (a₀ := 0) hdiv i
abbrev rowSet (i : Fin 32) : Finset S32x16.Idx := ((oV).view.slice (row i)).set

theorem wid_lt (L : grid0.Coords) : wid L < 32 := by
  have h0 : (L 0).val < 2 := (L 0).isLt
  have h1 : (L 1).val < 16 := (L 1).isLt
  unfold wid; omega
abbrev widF (L : grid0.Coords) : Fin 32 := ⟨wid L, wid_lt L⟩

/-- The rows and slices as the program spells them. -/
abbrev rowK (L : grid0.Coords) : Rect S32x16 := Rect.unit (s := S32x16) (k0_off3 L) S1x16.size (k0_off3_inb L)
abbrev oRowK (L : grid0.Coords) : Memref sig .scVector .hbm S16 .f32 := ((oV).slice (rowK L) (fun _ => rfl)).squeeze S16 squeezes_S1x16_S16
abbrev rectP (L : grid0.Coords) : Rect S100352 := Rect.unit (s := S100352) (k0_off1 L) S3136.size (k0_off1_inb L)
abbrev rS : Rect S16 := Rect.unit (s := S16) ![0] S16.size inb_S16_S16_0

theorem rowK_eq (L : grid0.Coords) : rowK L = row (widF L) := by
  unfold rowK row Rect.part Rect.block
  congr 1 <;> funext a
  · rw [k0_off3_eq]
    match a with
    | 0 => simp [Shape.partIx, Shape.partSize]
    | 1 => simp [Shape.partIx, Shape.partSize]
  · match a with
    | 0 => simp [Shape.partSize]
    | 1 => simp [Shape.partSize]

theorem set_oRowK (L : grid0.Coords) : (oRowK L).view.set = rowSet (widF L) := by
  show (((oV).view.slice (rowK L)).reshape S16 squeezes_S1x16_S16.numel_eq).set = ((oV).view.slice (row (widF L))).set
  rw [View.set_reshape]
  exact rowK_eq L ▸ rfl

/-- A share `q` of the four arrays the tiles read: the points' coordinates and the table. -/
abbrev readPts (d : Dev nD) (q : PosShare TreeShare) (X Y Z : FVec F S100352 .f32) (T : FVec F S1728 .f32) : sProp 𝕄 :=
  iprop((xLoc d ↦{q} X) ∗ (yLoc d ↦{q} Y) ∗ (zLoc d ↦{q} Z) ∗ (tLoc d ↦{q} T))
/-- Row `i` of the result. -/
abbrev oRowPts (d : Dev nD) (i : Fin 32) (o : FVec F S32x16 .f32) : sProp 𝕄 := oLoc d ↦[rowSet i]{fullShare} o

section Tile

variable (d : Dev nD) (L : grid0.Coords)

theorem pts_oRowK (f : Buf (Elt F) (oLoc d)) :
    ((oRowK L).view.loc (VT d L) ↦[(oRowK L).view.set]{fullShare} f : sProp 𝕄) = oLoc d ↦[rowSet (widF L)]{fullShare} f := by
  rw [set_oRowK]

abbrev cell0 : GSem nD τ sig := (VT d L, .dma cc0_scoped0.sem)
abbrev cell1 : GSem nD τ sig := (VT d L, .dma cc0_scoped1.sem)
abbrev cell2 : GSem nD τ sig := (VT d L, .dma cc0_scoped2.sem)
abbrev cell3 : GSem nD τ sig := (VT d L, .dma cc0_scoped3.sem)
abbrev cell4 : GSem nD τ sig := (VT d L, .dma cc0_scoped4.sem)

/-- The subcore's own counters are the five copies' and the rest. -/
theorem ownSems0_V :
    (ownSems0 (VT d L) : sProp 𝕄)
      = iprop(semVal (cell0 d L) 0 ∗ semVal (cell1 d L) 0 ∗ semVal (cell2 d L) 0 ∗ semVal (cell3 d L) 0 ∗ semVal (cell4 d L) 0
          ∗ bigSep ((((((ownCells (VT d L)).erase (cell0 d L)).erase (cell1 d L)).erase (cell2 d L)).erase (cell3 d L)).erase (cell4 d L))
              fun g => semVal g 0) := by
  unfold SparseCore.Cfg.ownSems0
  have mem (s : DmaSems sig S_) (h : (SemLoc.dma s.sem : SemLoc sig).isScoped .scVector = true) :
      ((VT d L, .dma s.sem) : GSem nD τ sig) ∈ ownCells (VT d L) := mem_ownCells.mpr ⟨rfl, h⟩
  have ne (s t : DmaSems sig S_) (h : (SemLoc.dma s.sem : SemLoc sig) ≠ .dma t.sem) :
      ((VT d L, .dma s.sem) : GSem nD τ sig) ≠ (VT d L, .dma t.sem) := fun e => h (Prod.mk.inj e).2
  rw [SparseCore.bigSep_erase' (mem cc0_scoped0 (by decide)),
    SparseCore.bigSep_erase' (Finset.mem_erase.mpr ⟨ne cc0_scoped1 cc0_scoped0 (by decide), mem cc0_scoped1 (by decide)⟩),
    SparseCore.bigSep_erase' (Finset.mem_erase.mpr ⟨ne cc0_scoped2 cc0_scoped1 (by decide), Finset.mem_erase.mpr ⟨ne cc0_scoped2 cc0_scoped0 (by decide),
      mem cc0_scoped2 (by decide)⟩⟩),
    SparseCore.bigSep_erase' (Finset.mem_erase.mpr ⟨ne cc0_scoped3 cc0_scoped2 (by decide), Finset.mem_erase.mpr ⟨ne cc0_scoped3 cc0_scoped1 (by decide),
      Finset.mem_erase.mpr ⟨ne cc0_scoped3 cc0_scoped0 (by decide), mem cc0_scoped3 (by decide)⟩⟩⟩),
    SparseCore.bigSep_erase' (Finset.mem_erase.mpr ⟨ne cc0_scoped4 cc0_scoped3 (by decide), Finset.mem_erase.mpr ⟨ne cc0_scoped4 cc0_scoped2 (by decide),
      Finset.mem_erase.mpr ⟨ne cc0_scoped4 cc0_scoped1 (by decide), Finset.mem_erase.mpr ⟨ne cc0_scoped4 cc0_scoped0 (by decide),
        mem cc0_scoped4 (by decide)⟩⟩⟩⟩)]

abbrev bref (b : Ref sig .scVector) : DevRef τ sig := (Proc.scVector (cV L) (jV L)).devRef b

/-- The subcore's own buffers are the five scratches, each at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f)
          ∗ bigSep ((((((ownRefs (τ := τ) (.scVector (cV L) (jV L))).erase (bref L cc0_scratch0)).erase (bref L cc0_scratch1)).erase
              (bref L cc0_scratch2)).erase (bref L cc0_scratch3)).erase (bref L cc0_scratch4))
              fun b => iprop(∃ f, ((d, b) : Loc nD τ sig) ↦{fullShare} f)) := by
  unfold SparseCore.Cfg.ownBufs
  have ne (s t : Ref sig .scVector) (h : s ≠ t) : bref L s ≠ bref L t := fun e => h (Proc.devRef_injective _ e)
  refine (SparseCore.bigSep_erase' (SparseCore.Cfg.mem_ownRefs_of_owner (p := Proc.scVector (cV L) (jV L)) (b := bref L cc0_scratch0) rfl)).trans ?_
  rw [SparseCore.bigSep_erase' (Finset.mem_erase.mpr ⟨ne cc0_scratch1 cc0_scratch0 (by decide),
      SparseCore.Cfg.mem_ownRefs_of_owner (p := Proc.scVector (cV L) (jV L)) (b := bref L cc0_scratch1) rfl⟩),
    SparseCore.bigSep_erase' (Finset.mem_erase.mpr ⟨ne cc0_scratch2 cc0_scratch1 (by decide), Finset.mem_erase.mpr ⟨ne cc0_scratch2 cc0_scratch0 (by decide),
      SparseCore.Cfg.mem_ownRefs_of_owner (p := Proc.scVector (cV L) (jV L)) (b := bref L cc0_scratch2) rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide),
        SparseCore.Cfg.mem_ownRefs_of_owner (p := Proc.scVector (cV L) (jV L)) (b := bref L cc0_scratch3) rfl⟩⟩⟩),
    SparseCore.bigSep_erase' (Finset.mem_erase.mpr ⟨ne cc0_scratch4 cc0_scratch3 (by decide), Finset.mem_erase.mpr ⟨ne cc0_scratch4 cc0_scratch2 (by decide),
      Finset.mem_erase.mpr ⟨ne cc0_scratch4 cc0_scratch1 (by decide), Finset.mem_erase.mpr ⟨ne cc0_scratch4 cc0_scratch0 (by decide),
        SparseCore.Cfg.mem_ownRefs_of_owner (p := Proc.scVector (cV L) (jV L)) (b := bref L cc0_scratch4) rfl⟩⟩⟩⟩)]

/-! ## What the copies and the loads bring -/

variable [FloatOps F] [Named F]

/-- What a trip's load of a scratch reads. -/
theorem load_lanes (X : FVec F S3136 .f32) (k : Fin k0_t1_loop.trips) :
    (sX).view.readAt (Elt F) (Rect.unit (s := S3136) (k0_off2 k) S16.size (k0_off2_inb k)).toLoadRect X = lanes X k.val := by
  funext j
  have hk : k.val < 196 := k.isLt
  have hj : (j 0).val < 16 := (j 0).isLt
  simp only [View.readAt_apply, Memref.view_whole, View.read_whole]
  unfold lanes
  congr 1; funext a
  match a with
  | 0 =>
    apply Fin.ext
    rw [LoadRect.idx_apply]
    have e : k0_off2 k 0 = 16 * k.val := congrFun (k0_off2_eq k) 0
    show k0_off2 k 0 + 1 * (j 0).val = (16 * k.val + (j 0).val) % 3136
    omega

theorem read_table (T : FVec F S1728 .f32) : ((sT).access (Rect.whole S1728)).read (Elt F) T = T := Memref.read_access_whole _ _ _

/-- A place of the tile's slice, in the whole array. -/
theorem emb_rectP (j : S3136.Idx) :
    (rectP L).emb j = (fun | 0 => ⟨(3136 * wid L + (j 0).val) % 100352, Nat.mod_lt _ (by decide)⟩ : S100352.Idx) := by
  funext a
  match a with
  | 0 =>
    apply Fin.ext
    have hw := wid_lt L
    have hj : (j 0).val < 3136 := (j 0).isLt
    have e : k0_off1 L 0 = 6272 * (L 1).val + 3136 * (L 0).val := congrFun (k0_off1_eq L) 0
    show k0_off1 L 0 + 1 * (j 0).val = (3136 * wid L + (j 0).val) % 100352
    unfold wid at hw ⊢; omega

theorem fetch_x (X : FVec F S100352 .f32) (f : FVec F S3136 .f32) :
    (sX).view.write (Elt F) f (((xV).slice (rectP L) (fun _ => rfl)).view.read (Elt F) X) Finset.univ = slice X (wid L) :=
  (View.write_whole_univ _ _ _).trans (funext fun j => congrArg X (emb_rectP L j))
theorem fetch_y (X : FVec F S100352 .f32) (f : FVec F S3136 .f32) :
    (sY).view.write (Elt F) f (((yV).slice (rectP L) (fun _ => rfl)).view.read (Elt F) X) Finset.univ = slice X (wid L) :=
  (View.write_whole_univ _ _ _).trans (funext fun j => congrArg X (emb_rectP L j))
theorem fetch_z (X : FVec F S100352 .f32) (f : FVec F S3136 .f32) :
    (sZ).view.write (Elt F) f (((zV).slice (rectP L) (fun _ => rfl)).view.read (Elt F) X) Finset.univ = slice X (wid L) :=
  (View.write_whole_univ _ _ _).trans (funext fun j => congrArg X (emb_rectP L j))
theorem fetch_t (X f : FVec F S1728 .f32) :
    (sT).view.write (Elt F) f ((tV).view.read (Elt F) X) Finset.univ = X :=
  (View.write_whole_univ _ _ _).trans rfl

/-- What the write-out reads back of the stored sum. -/
theorem read_stored (f acc : FVec F S16 .f32) : (sA).view.read (Elt F) ((sA).view.writes (Elt F) f [⟨rS, acc⟩]) = acc := by
  funext y
  have hy : rS.emb y = y := funext fun a => Fin.ext (by match a with | 0 => show 0 + 1 * (y 0).val = (y 0).val; omega)
  have h := View.read_writes_cons_emb (Val := Elt F) (v := (sA).view) (f := f) rS acc [] y
  rw [hy] at h
  exact h

/-- A place of the tile's row, in the whole result. -/
theorem emb_row (j : S16.Idx) : (oRowK L).view.emb j = (fun | 0 => ⟨wid L, wid_lt L⟩ | 1 => ⟨(j 0).val, (j 0).isLt⟩ : S32x16.Idx) := by
  have h : (Shape.reshapeEquiv squeezes_S1x16_S16.numel_eq j : S1x16.Idx) = Fin.cons ⟨0, Nat.one_pos⟩ j := Shape.reshapeEquiv_cons_one _ j
  show (rowK L).emb (Shape.reshapeEquiv squeezes_S1x16_S16.numel_eq j) = _
  rw [h]
  funext a
  match a with
  | 0 =>
    apply Fin.ext
    have e : k0_off3 L 0 = 2 * (L 1).val + (L 0).val := congrFun (k0_off3_eq L) 0
    show k0_off3 L 0 + 1 * 0 = wid L
    unfold wid; omega
  | 1 =>
    apply Fin.ext
    have e : k0_off3 L 1 = 0 := congrFun (k0_off3_eq L) 1
    show k0_off3 L 1 + 1 * (j 0).val = (j 0).val
    omega

/-- The row written with the tile's sum is the row of `outArr`. -/
theorem row_lands (o : FVec F S32x16 .f32) (X Y Z : FVec F S100352 .f32) (T : FVec F S1728 .f32) :
    ∀ p ∈ (oRowK L).view.set, (oRowK L).view.writes (Elt F) o
      [⟨Rect.whole S16, tileAcc (wid L) (slice X (wid L)) (slice Y (wid L)) (slice Z (wid L)) T 196⟩] p = outArr X Y Z T p := by
  intro p hp
  obtain ⟨j, -, rfl⟩ := Finset.mem_map.mp hp
  have e : (oRowK L).view.emb j = ((oRowK L).view.slice (Rect.whole S16)).emb j := by
    show _ = (oRowK L).view.emb ((Rect.whole S16).emb j)
    rw [Rect.emb_whole_apply]
  rw [e]
  refine (View.write_emb_of_mem _ _ (Finset.mem_univ j)).trans ?_
  rw [← e, emb_row]
  show tileAcc (wid L) (slice X (wid L)) (slice Y (wid L)) (slice Z (wid L)) T 196 j
    = tileAcc (wid L) (slice X (wid L)) (slice Y (wid L)) (slice Z (wid L)) T 196 (fun | 0 => ⟨(j 0).val, (j 0).isLt⟩)
  congr 1; funext a
  match a with
  | 0 => rfl

/-- The program's base word of the tile. -/
theorem base_eq : Scalar.muli (Scalar.addi (Scalar.muli (BitVec.ofNat 32 (L 1).val) 2#32) (BitVec.ofNat 32 (L 0).val)) 3136#32
    = BitVec.ofNat 32 (3136 * wid L) := tileBase_eq _ _ (L 0).isLt (L 1).isLt

/-- The loop's invariant: the scratches as fetched, the running sum that of the trips done. -/
def inv (X Y Z : FVec F S3136 .f32) (T : FVec F S1728 .f32) (i : ℕ) (acc : FVec F S16 .f32) : sProp 𝕄 :=
  iprop(⌜acc = tileAcc (wid L) X Y Z T i⌝
    ∗ ((sX).view.loc (VT d L) ↦{fullShare} X) ∗ ((sY).view.loc (VT d L) ↦{fullShare} Y) ∗ ((sZ).view.loc (VT d L) ↦{fullShare} Z)
    ∗ ((sT).view.loc (VT d L) ↦{fullShare} T))

theorem tile_body (hF : (K (F := F)).Facts) (O : CellTallies nD τ sig (HIx 1)) (W : Waits sig (HIx 1)) (hO : ∀ g, O g none = 0)
    (q : PosShare TreeShare) (X Y Z : FVec F S100352 .f32) (T : FVec F S1728 .f32) (o : FVec F S32x16 .f32) :
    iprop(levAts (K (F := F)).L (K (F := F)).lev ∗ emp
        ∗ (readPts d q X Y Z T ∗ oRowPts d (widF L) o)
        ∗ scopedBufs (VT d L) ∗ scopedSems0 (VT d L) ∗ owes (VT d L) O W)
      ⊢ wp frame (wpE (defs₀ (F := F)) 𝒱₀ (VT d L) none) Set.univ
          (cc0__sc_body L xV (Memref.isWhole_whole _) yV (Memref.isWhole_whole _) zV (Memref.isWhole_whole _) tV (Memref.isWhole_whole _)
            oV (Memref.isWhole_whole _) sX (Memref.isWhole_whole _) sY (Memref.isWhole_whole _) sZ (Memref.isWhole_whole _) sT (Memref.isWhole_whole _)
            sA (Memref.isWhole_whole _) cc0_scoped0 cc0_scoped1 cc0_scoped2 cc0_scoped3 cc0_scoped4)
          fun _ => iprop((readPts d q X Y Z T ∗ oRowPts d (widF L) (outArr X Y Z T))
            ∗ scopedBufs (VT d L) ∗ scopedSems0 (VT d L)
            ∗ ∃ W', ⌜∀ p ∈ W', p ∈ W ∨ p.2 = none ∨ p.2 = some (0 : Fin 1)⌝ ∗ owes (VT d L) O W') := by
  rw [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨⟨Hx, Hy, Hz, Ht⟩, Ho⟩, ⟨⟨%fx, Hsx⟩, ⟨%fy, Hsy⟩, ⟨%fz, Hsz⟩, ⟨%ft, Hst⟩, ⟨%fa, Hsa⟩, Hbufs⟩,
    ⟨Hs0, Hs1, Hs2, Hs3, Hs4, Hsems⟩, HO⟩
  ihave Hmw := (show levAts (K (F := F)).L (K (F := F)).lev ⊢ Transfers.MayWaits (VT d L) (default : HIx 1) O from
    (K (F := F)).mayWaits_none (thr := VT d L) hO) $$ Hlv
  ihave Ho' := (Entails.of_eq (pts_oRowK (F := F) d L _).symm) $$ Ho
  ihave Hx' := (show (xLoc d ↦{q} X : sProp 𝕄) ⊢ (xV).view.loc (VT d L) ↦{q} X from Entails.of_eq rfl) $$ Hx
  ihave Hy' := (show (yLoc d ↦{q} Y : sProp 𝕄) ⊢ (yV).view.loc (VT d L) ↦{q} Y from Entails.of_eq rfl) $$ Hy
  ihave Hz' := (show (zLoc d ↦{q} Z : sProp 𝕄) ⊢ (zV).view.loc (VT d L) ↦{q} Z from Entails.of_eq rfl) $$ Hz
  ihave Ht' := (show (tLoc d ↦{q} T : sProp 𝕄) ⊢ (tV).view.loc (VT d L) ↦{q} T from Entails.of_eq rfl) $$ Ht
  ihave Hsx' := (show ((VT d L).loc cc0_scratch0 ↦{fullShare} fx : sProp 𝕄) ⊢ (sX).view.loc (VT d L) ↦{fullShare} fx from Entails.of_eq rfl) $$ Hsx
  ihave Hsy' := (show ((VT d L).loc cc0_scratch1 ↦{fullShare} fy : sProp 𝕄) ⊢ (sY).view.loc (VT d L) ↦{fullShare} fy from Entails.of_eq rfl) $$ Hsy
  ihave Hsz' := (show ((VT d L).loc cc0_scratch2 ↦{fullShare} fz : sProp 𝕄) ⊢ (sZ).view.loc (VT d L) ↦{fullShare} fz from Entails.of_eq rfl) $$ Hsz
  ihave Hst' := (show ((VT d L).loc cc0_scratch3 ↦{fullShare} ft : sProp 𝕄) ⊢ (sT).view.loc (VT d L) ↦{fullShare} ft from Entails.of_eq rfl) $$ Hst
  ihave Hsa' := (show ((VT d L).loc cc0_scratch4 ↦{fullShare} fa : sProp 𝕄) ⊢ (sA).view.loc (VT d L) ↦{fullShare} fa from Entails.of_eq rfl) $$ Hsa
  sl_exec
  sl_for (inv d L (slice X (wid L)) (slice Y (wid L)) (slice Z (wid L)) T) $$ [Hsx' Hsy' Hsz' Hst']
  case region =>
    intro k acc
    unfold inv
    iintro ⟨%hacc, Hsx, Hsy, Hsz, Hst⟩
    sl_exec (disch := exact hold1 _ _ _)
    iapply (SparseCore.wp_vectorLoadIdx 𝒱₀ (VT d L) none Set.univ (base := sT) (S := Finset.univ) (q := fullShare) (Finset.subset_univ _)) $$ Hst; iintro Hst
    sl_exec (disch := exact hold2 _ _ _)
    iapply (SparseCore.wp_vectorLoadIdx 𝒱₀ (VT d L) none Set.univ (base := sT) (S := Finset.univ) (q := fullShare) (Finset.subset_univ _)) $$ Hst; iintro Hst
    sl_exec (disch := exact hold3 _ _ _)
    iapply (SparseCore.wp_vectorLoadIdx 𝒱₀ (VT d L) none Set.univ (base := sT) (S := Finset.univ) (q := fullShare) (Finset.subset_univ _)) $$ Hst; iintro Hst
    sl_exec (disch := exact hold4 _ _ _)
    iapply (SparseCore.wp_vectorLoadIdx 𝒱₀ (VT d L) none Set.univ (base := sT) (S := Finset.univ) (q := fullShare) (Finset.subset_univ _)) $$ Hst; iintro Hst
    sl_exec (disch := exact hold5 _ _ _)
    iapply (SparseCore.wp_vectorLoadIdx 𝒱₀ (VT d L) none Set.univ (base := sT) (S := Finset.univ) (q := fullShare) (Finset.subset_univ _)) $$ Hst; iintro Hst
    sl_exec (disch := exact hold6 _ _ _)
    iapply (SparseCore.wp_vectorLoadIdx 𝒱₀ (VT d L) none Set.univ (base := sT) (S := Finset.univ) (q := fullShare) (Finset.subset_univ _)) $$ Hst; iintro Hst
    sl_exec (disch := exact hold7 _ _ _)
    iapply (SparseCore.wp_vectorLoadIdx 𝒱₀ (VT d L) none Set.univ (base := sT) (S := Finset.univ) (q := fullShare) (Finset.subset_univ _)) $$ Hst; iintro Hst
    sl_exec (disch := exact hold8 _ _ _)
    iapply (SparseCore.wp_vectorLoadIdx 𝒱₀ (VT d L) none Set.univ (base := sT) (S := Finset.univ) (q := fullShare) (Finset.subset_univ _)) $$ Hst; iintro Hst
    sl_exec
    sl_step
    isplitr
    · ipureintro
      rw [hacc]
      show k0_pay2 _ (laneVal ((sX).view.readAt (Elt F) (Rect.unit (s := S3136) (k0_off2 k) S16.size (k0_off2_inb k)).toLoadRect (slice X (wid L)))
          ((sY).view.readAt (Elt F) (Rect.unit (s := S3136) (k0_off2 k) S16.size (k0_off2_inb k)).toLoadRect (slice Y (wid L)))
          ((sZ).view.readAt (Elt F) (Rect.unit (s := S3136) (k0_off2 k) S16.size (k0_off2_inb k)).toLoadRect (slice Z (wid L)))
          (((sT).access (Rect.whole S1728)).read (Elt F) T))
        (k0_pay26 (Scalar.muli (Scalar.addi (Scalar.muli (BitVec.ofNat 32 (L 1).val) 2#32) (BitVec.ofNat 32 (L 0).val)) 3136#32) laneNo
          (Scalar.muli (Scf.iv 0#32 1#32 k.val) 16#32)) (Scalar.ofBits .f32 0x00000000#32) = _
      rw [read_table, base_eq]
      rw [show (sX).view.readAt (Elt F) (Rect.unit (s := S3136) (k0_off2 k) S16.size (k0_off2_inb k)).toLoadRect (slice X (wid L)) = _ from load_lanes (slice X (wid L)) k,
        show (sY).view.readAt (Elt F) (Rect.unit (s := S3136) (k0_off2 k) S16.size (k0_off2_inb k)).toLoadRect (slice Y (wid L)) = _ from load_lanes (slice Y (wid L)) k,
        show (sZ).view.readAt (Elt F) (Rect.unit (s := S3136) (k0_off2 k) S16.size (k0_off2_inb k)).toLoadRect (slice Z (wid L)) = _ from load_lanes (slice Z (wid L)) k]
      rfl
    isplitl [Hsx]; · iexact Hsx
    isplitl [Hsy]; · iexact Hsy
    isplitl [Hsz]; · iexact Hsz
    iexact Hst
  · unfold inv
    isplitr; · ipureintro; rfl
    isplitl [Hsx']; · iapply (Entails.of_eq (congrArg (fun f => ((sX).view.loc (VT d L) ↦{fullShare} f : sProp 𝕄)) (fetch_x L X fx))); iexact Hsx'
    isplitl [Hsy']; · iapply (Entails.of_eq (congrArg (fun f => ((sY).view.loc (VT d L) ↦{fullShare} f : sProp 𝕄)) (fetch_y L Y fy))); iexact Hsy'
    isplitl [Hsz']; · iapply (Entails.of_eq (congrArg (fun f => ((sZ).view.loc (VT d L) ↦{fullShare} f : sProp 𝕄)) (fetch_z L Z fz))); iexact Hsz'
    iapply (Entails.of_eq (congrArg (fun f => ((sT).view.loc (VT d L) ↦{fullShare} f : sProp 𝕄)) (fetch_t T ft))); iexact Hst'
  iintro %acc HI
  unfold inv
  icases HI with ⟨%hacc, Hsx, Hsy, Hsz, Hst⟩
  sl_exec
  sl_step
  have hacc' : (sA).view.read (Elt F) ((sA).view.writes (Elt F) fa [⟨rS, acc⟩])
      = tileAcc (wid L) (slice X (wid L)) (slice Y (wid L)) (slice Z (wid L)) T 196 := (read_stored fa acc).trans hacc
  isplitl [Hx' Hy' Hz' Ht' Ho']
  · isplitl [Hx' Hy' Hz' Ht']
    · isplitl [Hx']; · iexact Hx'
      isplitl [Hy']; · iexact Hy'
      isplitl [Hz']; · iexact Hz'
      iexact Ht'
    · iapply (Entails.of_eq (pts_oRowK (F := F) d L (outArr X Y Z T)))
      iapply (Entails.of_eq (pointsTo_congr (fun p hp => row_lands L o X Y Z T p hp)))
      iapply (Entails.of_eq (congrArg (fun w => ((oRowK L).view.loc (VT d L) ↦[(oRowK L).view.set]{fullShare}
        (oRowK L).view.writes (Elt F) o [⟨Rect.whole S16, w⟩] : sProp 𝕄)) hacc'))
      iexact Ho'
  isplitl [Hsx Hsy Hsz Hst Hsa' Hbufs]
  · isplitl [Hsx]; · iexists _; iexact Hsx
    isplitl [Hsy]; · iexists _; iexact Hsy
    isplitl [Hsz]; · iexists _; iexact Hsz
    isplitl [Hst]; · iexists _; iexact Hst
    isplitl [Hsa']; · iexists _; iexact Hsa'
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _
  isplitr
  rotate_left
  · iexact HO
  · ipureintro; intro p hp
    simp only [Finset.mem_insert] at hp
    rcases hp with h | h | h | h | h | h
    all_goals first | exact .inl h | exact .inr (.inl (h ▸ rfl))

end Tile

end Cert.Proof.IdealRun

end
-- ==== Proof.Launch.lean ====
/-
  The program's run. @main on the TensorCore: host operations slice the table out of the volume and pad and split the
  points; the call deals the four arrays to 32 tiles and each tile its row of the result; host operations add the
  result up and divide. `run_main`: every run terminates with the counters at zero and every buffer at the contents
  this file names (`fin`).
-/
module

public import proofs.«01_k».proof.Proof.Tile
public import Idealize.ShloMosaic.Lib.Pipeline.Frame

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (ucRefs unscopedBufs_held sub_ucRefs)
open Idealize.ShloMosaic.Tactic

variable {F : FTy → Type}

local notation "𝕄" => MT nD τ sig (HIx 1) (Elt F) ℕ UU ℕ
local notation "xV" => (Memref.whole Cert.KernelIdeal.main_v8_scv : Memref Cert.KernelIdeal.sig Kind.scVector Space.hbm Cert.KernelIdeal.S100352 EltTy.f32)
local notation "yV" => (Memref.whole Cert.KernelIdeal.main_v10_scv : Memref Cert.KernelIdeal.sig Kind.scVector Space.hbm Cert.KernelIdeal.S100352 EltTy.f32)
local notation "zV" => (Memref.whole Cert.KernelIdeal.main_v12_scv : Memref Cert.KernelIdeal.sig Kind.scVector Space.hbm Cert.KernelIdeal.S100352 EltTy.f32)
local notation "tV" => (Memref.whole Cert.KernelIdeal.main_v5_scv : Memref Cert.KernelIdeal.sig Kind.scVector Space.hbm Cert.KernelIdeal.S1728 EltTy.f32)
local notation "oV" => (Memref.whole Cert.KernelIdeal.main_v13_scv : Memref Cert.KernelIdeal.sig Kind.scVector Space.hbm Cert.KernelIdeal.S32x16 EltTy.f32)
local notation "sX" => (Memref.whole Cert.KernelIdeal.cc0_scratch0 : Memref Cert.KernelIdeal.sig Kind.scVector Space.vmem Cert.KernelIdeal.S3136 EltTy.f32)
local notation "sY" => (Memref.whole Cert.KernelIdeal.cc0_scratch1 : Memref Cert.KernelIdeal.sig Kind.scVector Space.vmem Cert.KernelIdeal.S3136 EltTy.f32)
local notation "sZ" => (Memref.whole Cert.KernelIdeal.cc0_scratch2 : Memref Cert.KernelIdeal.sig Kind.scVector Space.vmem Cert.KernelIdeal.S3136 EltTy.f32)
local notation "sT" => (Memref.whole Cert.KernelIdeal.cc0_scratch3 : Memref Cert.KernelIdeal.sig Kind.scVector Space.vmem Cert.KernelIdeal.S1728 EltTy.f32)
local notation "sA" => (Memref.whole Cert.KernelIdeal.cc0_scratch4 : Memref Cert.KernelIdeal.sig Kind.scVector Space.vmem Cert.KernelIdeal.S16 EltTy.f32)

variable [FloatOps F] [Named F]

/-! ## The host operations, before and after the call -/

/-- The operations before the call. -/
abbrev opsPre : List (HloOp τ sig (Elt F)) :=
  [ nullary main_c (constantI S_ 32 5#32),
    binary main_c main_arg2 main_v0 muli,
    nullary main_c_0 (constantI S_ 32 0#32),
    binary main_v0 main_c_0 main_v1 (cmpi .slt),
    nullary main_c_1 (constantI S_ 32 80#32),
    binary main_v0 main_c_1 main_v2 addi,
    ternary main_v1 main_v2 main_v0 main_v3 select,
    nullary main_c_2 (constantI S_ 32 100#32),
    nullary main_c_3 (constantI S_ 32 100#32),
    unaryIndexed main_arg0 ![main_c_2, main_c_3, main_v3] ⟨S_, .i32⟩ main_v4
      (fun x i => Host.dynamicSlice S12x12x12 x (fun k => (i k (Shape.Idx.first h_S_)).toInt) sliceFits_S200x200x80_S12x12x12),
    reshape main_v4 main_v5 (rfl : (.f32 : EltTy) = .f32) shapeCasts_S12x12x12_S1728,
    nullary main_c_4 (constantI S_ 32 0#32),
    TRef.unary (TRef.of (T := ⟨S_, .i32⟩) main_c_4) (TRef.of (T := ⟨S_, .f32⟩) main_call0_v0) (sitofp .f32),
    TRef.binary (TRef.of (T := ⟨S100000x3, .f32⟩) main_arg1) (TRef.of (T := ⟨S_, .f32⟩) main_call0_v0) (TRef.of (T := ⟨S100352x3, .f32⟩) main_v6)
      (fun x v => pad S100352x3 ![0, 0] ![352, 0] ![0, 0] x v pads_S100000x3_S100352x3_03520_000 h_S_),
    unary main_v6 main_v7 (extractStridedSlice S100352x1 ![0, 0] · slices_S100352x3_S100352x1_0_0),
    reshape main_v7 main_v8 (rfl : (.f32 : EltTy) = .f32) shapeCasts_S100352x1_S100352,
    unary main_v6 main_v9 (extractStridedSlice S100352x1 ![0, 1] · slices_S100352x3_S100352x1_0_1),
    reshape main_v9 main_v10 (rfl : (.f32 : EltTy) = .f32) shapeCasts_S100352x1_S100352,
    unary main_v6 main_v11 (extractStridedSlice S100352x1 ![0, 2] · slices_S100352x3_S100352x1_0_2),
    reshape main_v11 main_v12 (rfl : (.f32 : EltTy) = .f32) shapeCasts_S100352x1_S100352 ]

/-- The operations after it. -/
abbrev opsPost : List (HloOp τ sig (Elt F)) :=
  [ nullary main_cst (constant S_ .f32 0x00000000#32),
    binary main_v13 main_cst main_v14 (fun x v => Host.reduceAdd x v reducesTo_S32x16_S_d0_1 h_S_),
    nullary main_cst_5 (constant S_ .f32 0x47C35000#32),
    binary main_v14 main_cst_5 main_v15 Host.divf ]

theorem main_eq (d : Dev nD) : main (F := F) d = (seq opsPre >>= fun _ => (sc (F := F)).run d 0 >>= fun _ => (seq opsPost >>= fun _ => pure ⟨⟩)) := by
  rw [seq_bind_seqK, seq_bind_seqK]
  simp only [main, fn_pad.body, bind_assoc, pure_bind]
  rfl

theorem opsPre_sub : ∀ op ∈ (opsPre : List (HloOp τ sig (Elt F))), op.bufs ⊆ ucRefs τ sig := fun op h =>
  sub_ucRefs op ((List.forall_iff_forall_mem.mp (show (opsPre : List (HloOp τ sig (Elt F))).Forall fun op => op.bufs ⊆ tcRefs τ sig from
    ⟨nullary_bufs_sub .., binary_bufs_sub .., nullary_bufs_sub .., binary_bufs_sub .., nullary_bufs_sub .., binary_bufs_sub ..,
      ternary_bufs_sub .., nullary_bufs_sub .., nullary_bufs_sub .., unaryIndexed_bufs_sub .., reshape_bufs_sub .., nullary_bufs_sub ..,
      unary_bufs_sub .., binary_bufs_sub .., unary_bufs_sub .., reshape_bufs_sub .., unary_bufs_sub .., reshape_bufs_sub ..,
      unary_bufs_sub .., reshape_bufs_sub ..⟩)) op h)
theorem opsPost_sub : ∀ op ∈ (opsPost : List (HloOp τ sig (Elt F))), op.bufs ⊆ ucRefs τ sig := fun op h =>
  sub_ucRefs op ((List.forall_iff_forall_mem.mp (show (opsPost : List (HloOp τ sig (Elt F))).Forall fun op => op.bufs ⊆ tcRefs τ sig from
    ⟨nullary_bufs_sub .., binary_bufs_sub .., nullary_bufs_sub .., binary_bufs_sub ..⟩)) op h)
theorem opsPre_fresh : ∀ op ∈ (opsPre : List (HloOp τ sig (Elt F))), op.fresh = ∅ :=
  List.forall_iff_forall_mem.mp (show (opsPre : List (HloOp τ sig (Elt F))).Forall fun op => op.fresh = ∅ from ⟨rfl, rfl, rfl, rfl, rfl, rfl, rfl, rfl, rfl, rfl, rfl, rfl, rfl, rfl, rfl, rfl, rfl, rfl, rfl, rfl⟩)
theorem opsPost_fresh : ∀ op ∈ (opsPost : List (HloOp τ sig (Elt F))), op.fresh = ∅ :=
  List.forall_iff_forall_mem.mp (show (opsPost : List (HloOp τ sig (Elt F))).Forall fun op => op.fresh = ∅ from ⟨rfl, rfl, rfl, rfl⟩)

/-! ## The contents at the call and at the end -/

variable (m : (ℓ : Loc nD τ sig) → Buf (Elt F) ℓ) (ρ : Dev nD → PrngReg)

/-- Device `d`'s buffers when the call starts. -/
def atCall (d : Dev nD) : Valuation τ sig (Elt F) := after opsPre (launchContents m d)
/-- What the tiles read: the coordinates and the table. -/
abbrev xh (d : Dev nD) : FVec F S100352 .f32 := atCall m d (Proc.devRef .tc main_v8)
abbrev yh (d : Dev nD) : FVec F S100352 .f32 := atCall m d (Proc.devRef .tc main_v10)
abbrev zh (d : Dev nD) : FVec F S100352 .f32 := atCall m d (Proc.devRef .tc main_v12)
abbrev th (d : Dev nD) : FVec F S1728 .f32 := atCall m d (Proc.devRef .tc main_v5)
/-- The result before the call, and after it. -/
abbrev oh (d : Dev nD) : FVec F S32x16 .f32 := atCall m d (Proc.devRef .tc main_v13)
abbrev oh' (d : Dev nD) : FVec F S32x16 .f32 := outArr (xh m d) (yh m d) (zh m d) (th m d)
/-- Device `d`'s buffers when the call is over, and at the end. -/
def afterCall (d : Dev nD) : Valuation τ sig (Elt F) := Function.update (atCall m d) (Proc.devRef .tc main_v13) (oh' m d)
def fin (d : Dev nD) : Valuation τ sig (Elt F) := after opsPost (afterCall m d)

/-! ## What the call carries -/

/-- Core `c`'s share of the arrays read, and its subcore `s`'s. -/
abbrev qCore (c : Fin 2) : PosShare TreeShare := Transfers.shareTok fullShare 2 c
abbrev qTile (c : Fin 2) (s : Fin 16) : PosShare TreeShare := Transfers.shareTok (qCore c) 16 s
/-- The result's row of subcore `s` of core `c`. -/
abbrev rowOf (c : Fin 2) (s : Fin 16) : Fin 32 := ⟨2 * s.val + c.val, by omega⟩

abbrev readAt (d : Dev nD) (q : PosShare TreeShare) : sProp 𝕄 := readPts d q (xh m d) (yh m d) (zh m d) (th m d)
abbrev coreRows (d : Dev nD) (c : Fin 2) (o : FVec F S32x16 .f32) : sProp 𝕄 :=
  bigSep Finset.univ fun s : Fin 16 => oRowPts d (rowOf c s) o

theorem nSub_zero : (K (F := F)).nSub 0 = 16 := rfl
theorem nCore_zero : (K (F := F)).nCore 0 = 2 := rfl

/-- A core is handed its share of the arrays read and its sixteen rows of the result, a subcore its share and its row;
    each hands back the same, the rows at the tiles' sums. -/
def P : (K (F := F)).Pay (nD := nD) (Val := Elt F) (Name := ℕ) (U := UU) where
  st := fun q d => match q with | 0 => fun c => iprop(readAt m d (qCore (Fin.cast nCore_zero c)) ∗ coreRows d (Fin.cast nCore_zero c) (oh m d))
  dn := fun q d => match q with | 0 => fun c => iprop(readAt m d (qCore (Fin.cast nCore_zero c)) ∗ coreRows d (Fin.cast nCore_zero c) (oh' m d))
  go := fun q d => match q with
    | 0 => fun c s => iprop(readAt m d (qTile (Fin.cast nCore_zero c) (Fin.cast nSub_zero s)) ∗ oRowPts d (rowOf (Fin.cast nCore_zero c) (Fin.cast nSub_zero s)) (oh m d))
  td := fun q d => match q with
    | 0 => fun c s => iprop(readAt m d (qTile (Fin.cast nCore_zero c) (Fin.cast nSub_zero s)) ∗ oRowPts d (rowOf (Fin.cast nCore_zero c) (Fin.cast nSub_zero s)) (oh' m d))
  x := fun _ _ => iprop(emp)

instance P_storable : (P (F := F) m).IsStorable where
  st q d c := match q with | 0 => (inferInstance : BI.Storable (upEmb : UEmb _ 𝕄) iprop(readAt m d (qCore (Fin.cast nCore_zero c)) ∗ coreRows d (Fin.cast nCore_zero c) (oh m d)))
  dn q d c := match q with | 0 => (inferInstance : BI.Storable (upEmb : UEmb _ 𝕄) iprop(readAt m d (qCore (Fin.cast nCore_zero c)) ∗ coreRows d (Fin.cast nCore_zero c) (oh' m d)))
  go q d c s := match q with
    | 0 => (inferInstance : BI.Storable (upEmb : UEmb _ 𝕄) iprop(readAt m d (qTile (Fin.cast nCore_zero c) (Fin.cast nSub_zero s)) ∗ oRowPts d (rowOf (Fin.cast nCore_zero c) (Fin.cast nSub_zero s)) (oh m d)))
  td q d c s := match q with
    | 0 => (inferInstance : BI.Storable (upEmb : UEmb _ 𝕄) iprop(readAt m d (qTile (Fin.cast nCore_zero c) (Fin.cast nSub_zero s)) ∗ oRowPts d (rowOf (Fin.cast nCore_zero c) (Fin.cast nSub_zero s)) (oh' m d)))

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) yV (Memref.isWhole_whole _) zV (Memref.isWhole_whole _) tV (Memref.isWhole_whole _) oV (Memref.isWhole_whole _)
          sX (Memref.isWhole_whole _) sY (Memref.isWhole_whole _) sZ (Memref.isWhole_whole _) sT (Memref.isWhole_whole _) sA (Memref.isWhole_whole _)
          cc0_scoped0 cc0_scoped1 cc0_scoped2 cc0_scoped3 cc0_scoped4) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF O W hO (qTile (Fin.cast nCore_zero c) (Fin.cast nSub_zero i)) (xh m d) (yh m d) (zh m d) (th m d) (oh m d)

/-! ## The arrays read are dealt in shares, the result in rows -/

omit [FloatOps F] [Named F] in
/-- A share of the arrays read is `n` shares of them and a rest. -/
theorem readPts_toks (d : Dev nD) (q : PosShare TreeShare) (n : ℕ) (X Y Z : FVec F S100352 .f32) (T : FVec F S1728 .f32) :
    (readPts d q X Y Z T : sProp 𝕄) ⊣⊢ iprop(readPts d (Transfers.shareDrop q n) X Y Z T ∗ bigSep Finset.univ fun i : Fin n => readPts d (Transfers.shareTok q n i) X Y Z T) := by
  have hx := Transfers.pointsTo_toks (ℓ := xLoc d) (S := Finset.univ) (f := X) (Ix := HIx 1) (Val := Elt F) (Name := ℕ) (U := UU) (Lvl := ℕ) q n
  have hy := Transfers.pointsTo_toks (ℓ := yLoc d) (S := Finset.univ) (f := Y) (Ix := HIx 1) (Val := Elt F) (Name := ℕ) (U := UU) (Lvl := ℕ) q n
  have hz := Transfers.pointsTo_toks (ℓ := zLoc d) (S := Finset.univ) (f := Z) (Ix := HIx 1) (Val := Elt F) (Name := ℕ) (U := UU) (Lvl := ℕ) q n
  have ht := Transfers.pointsTo_toks (ℓ := tLoc d) (S := Finset.univ) (f := T) (Ix := HIx 1) (Val := Elt F) (Name := ℕ) (U := UU) (Lvl := ℕ) q n
  unfold readPts
  rw [bigSep_sep', bigSep_sep', bigSep_sep']
  constructor
  · iintro ⟨Hx, Hy, Hz, Ht⟩
    ihave Hx' := hx.1 $$ Hx
    ihave Hy' := hy.1 $$ Hy
    ihave Hz' := hz.1 $$ Hz
    ihave Ht' := ht.1 $$ Ht
    icases Hx' with ⟨Hx, Hxs⟩
    icases Hy' with ⟨Hy, Hys⟩
    icases Hz' with ⟨Hz, Hzs⟩
    icases Ht' with ⟨Ht, Hts⟩
    isplitl [Hx Hy Hz Ht]
    · isplitl [Hx]; · iexact Hx
      isplitl [Hy]; · iexact Hy
      isplitl [Hz]; · iexact Hz
      iexact Ht
    isplitl [Hxs]; · iexact Hxs
    isplitl [Hys]; · iexact Hys
    isplitl [Hzs]; · iexact Hzs
    iexact Hts
  · iintro ⟨⟨Hx, Hy, Hz, Ht⟩, Hxs, Hys, Hzs, Hts⟩
    isplitl [Hx Hxs]
    · iapply hx.2; isplitl [Hx]; · iexact Hx
      iexact Hxs
    isplitl [Hy Hys]
    · iapply hy.2; isplitl [Hy]; · iexact Hy
      iexact Hys
    isplitl [Hz Hzs]
    · iapply hz.2; isplitl [Hz]; · iexact Hz
      iexact Hzs
    iapply ht.2; isplitl [Ht]; · iexact Ht
    iexact Hts

theorem rowSet_eq (i : Fin 32) : rowSet i = (row i).set := by
  show ((View.whole (main_v13_scv : Ref sig .scVector)).slice (row i)).set = _
  rw [View.set_slice]; exact Finset.map_refl
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)

/-- The tiles, by core and subcore, are the result's rows. -/
def tileEquiv : Fin 2 × Fin 16 ≃ Fin 32 where
  toFun p := rowOf p.1 p.2
  invFun i := (⟨i.val % 2, by omega⟩, ⟨i.val / 2, by omega⟩)
  left_inv p := by
    obtain ⟨c, s⟩ := p
    refine Prod.ext (Fin.ext ?_) (Fin.ext ?_)
    · show (2 * s.val + c.val) % 2 = c.val
      omega
    · show (2 * s.val + c.val) / 2 = s.val
      omega
  right_inv i := Fin.ext (by show 2 * (i.val / 2) + i.val % 2 = i.val; omega)

omit [FloatOps F] [Named F] in
/-- The result whole is each core's rows of it. -/
theorem oPts_cores (d : Dev nD) (o : FVec F S32x16 .f32) :
    (oLoc d ↦{fullShare} o : sProp 𝕄) = bigSep Finset.univ fun c : Fin 2 => coreRows d c o := by
  rw [show (oLoc d ↦{fullShare} o : sProp 𝕄) = bigSep Finset.univ fun i : Fin 32 => oRowPts d i o by
      rw [← pointsTo_biUnion Finset.univ (ℓ := oLoc d) rowSet rows_disjoint, rows_cover]; try rfl,
    bigSep_univ_equiv tileEquiv, bigSep_univ_prod]
  rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_seqs (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show iprop(readAt m d (qCore (Fin.cast nCore_zero c)) ∗ coreRows d (Fin.cast nCore_zero c) (oh m d)) ⊢ |={Set.univ}=> iprop(
      (bigSep Finset.univ fun i : Fin ((K (F := F)).nSub 0) => iprop(readAt m d (qTile (Fin.cast nCore_zero c) (Fin.cast nSub_zero i))
          ∗ oRowPts d (rowOf (Fin.cast nCore_zero c) (Fin.cast nSub_zero i)) (oh m d)))
      ∗ ((bigSep Finset.univ fun i : Fin ((K (F := F)).nSub 0) => iprop(readAt m d (qTile (Fin.cast nCore_zero c) (Fin.cast nSub_zero i))
          ∗ oRowPts d (rowOf (Fin.cast nCore_zero c) (Fin.cast nSub_zero i)) (oh' m d)))
          -∗ iprop(readAt m d (qCore (Fin.cast nCore_zero c)) ∗ coreRows d (Fin.cast nCore_zero c) (oh' m d))))
  rw [bigSep_tasks (F := F) (fun i => iprop(readAt m d (qTile (Fin.cast nCore_zero c) i) ∗ oRowPts d (rowOf (Fin.cast nCore_zero c) i) (oh m d))),
    bigSep_tasks (F := F) (fun i => iprop(readAt m d (qTile (Fin.cast nCore_zero c) i) ∗ oRowPts d (rowOf (Fin.cast nCore_zero c) i) (oh' m d))),
    bigSep_sep' Finset.univ (fun i => readAt m d (qTile (Fin.cast nCore_zero c) i)) (fun i => oRowPts d (rowOf (Fin.cast nCore_zero c) i) (oh m d)),
    bigSep_sep' Finset.univ (fun i => readAt m d (qTile (Fin.cast nCore_zero c) i)) (fun i => oRowPts d (rowOf (Fin.cast nCore_zero c) i) (oh' m d))]
  iintro ⟨Hr, Ho⟩; imodintro
  ihave Hr' := (readPts_toks d (qCore (Fin.cast nCore_zero c)) 16 (xh m d) (yh m d) (zh m d) (th m d)).1 $$ Hr
  icases Hr' with ⟨Hd, Hr⟩
  isplitl [Hr Ho]
  · isplitl [Hr]; · iexact Hr
    iexact Ho
  iintro ⟨Hr, Ho⟩
  isplitr [Ho]
  · iapply (readPts_toks d (qCore (Fin.cast nCore_zero c)) 16 (xh m d) (yh m d) (zh m d) (th m d)).2
    isplitl [Hd]; · iexact Hd
    iexact Hr
  iexact Ho

/-! ## The launch element: the handshakes' rounds; nothing of the kernel's own -/

theorem bigSep_emp' {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp' (F := F)]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp' (F := F)]
  iempintro

/-! ## @main on the TensorCore -/

/-- The buffers the call touches. -/
def callSet : Finset (DevRef τ sig) :=
  ({main_v8, main_v10, main_v12, main_v5, main_v13} : Finset (Ref sig .tc)).map ⟨Proc.devRef (sig := sig) (.tc : Proc τ), Proc.devRef_injective _⟩

theorem callSet_sub : callSet ⊆ ucRefs τ sig := by
  intro b hb
  obtain ⟨r, hr, rfl⟩ := Finset.mem_map.1 hb
  refine Finset.mem_filter.mpr ⟨devRef_mem_tcRefs r, ?_⟩
  show ¬ r.isScoped
  revert r; decide

omit [FloatOps F] [Named F] in
theorem held_callSet (d : Dev nD) (V : Valuation τ sig (Elt F)) :
    (held (SparseCore.T d) callSet V : sProp 𝕄)
      = iprop((xLoc d ↦{fullShare} V (Proc.devRef .tc main_v8)) ∗ (yLoc d ↦{fullShare} V (Proc.devRef .tc main_v10))
          ∗ (zLoc d ↦{fullShare} V (Proc.devRef .tc main_v12)) ∗ (tLoc d ↦{fullShare} V (Proc.devRef .tc main_v5))
          ∗ oLoc d ↦{fullShare} V (Proc.devRef .tc main_v13)) := by
  unfold held callSet
  rw [bigSep_map, SparseCore.bigSep_insert' (by decide), SparseCore.bigSep_insert' (by decide), SparseCore.bigSep_insert' (by decide),
    SparseCore.bigSep_insert' (by decide), bigSep_singleton]
  rfl

theorem afterCall_ne (d : Dev nD) {b : DevRef τ sig} (h : b ≠ Proc.devRef .tc main_v13) : afterCall m d b = atCall m d b :=
  Function.update_of_ne h _ _
theorem afterCall_self (d : Dev nD) : afterCall m d (Proc.devRef .tc main_v13) = oh' m d := Function.update_self ..

theorem held_callSet_before (d : Dev nD) :
    (held (SparseCore.T d) callSet (atCall m d) : sProp 𝕄) = iprop((xLoc d ↦{fullShare} xh m d) ∗ (yLoc d ↦{fullShare} yh m d)
      ∗ (zLoc d ↦{fullShare} zh m d) ∗ (tLoc d ↦{fullShare} th m d) ∗ oLoc d ↦{fullShare} oh m d) := held_callSet d _
theorem held_callSet_after (d : Dev nD) :
    (held (SparseCore.T d) callSet (afterCall m d) : sProp 𝕄) = iprop((xLoc d ↦{fullShare} xh m d) ∗ (yLoc d ↦{fullShare} yh m d)
      ∗ (zLoc d ↦{fullShare} zh m d) ∗ (tLoc d ↦{fullShare} th m d) ∗ oLoc d ↦{fullShare} oh' m d) := by
  rw [held_callSet, afterCall_self, afterCall_ne m d (devRef_ne_of_ne (by decide)), afterCall_ne m d (devRef_ne_of_ne (by decide)),
    afterCall_ne m d (devRef_ne_of_ne (by decide)), afterCall_ne m d (devRef_ne_of_ne (by decide))]
theorem held_rest (d : Dev nD) :
    (held (SparseCore.T d) (ucRefs τ sig \ callSet) (afterCall m d) : sProp 𝕄) = held (SparseCore.T d) (ucRefs τ sig \ callSet) (atCall m d) :=
  held_congr _ fun b hb => afterCall_ne m d fun e => (Finset.mem_sdiff.mp hb).2 (e ▸ Finset.mem_map_of_mem _ (by decide))

theorem st0_eq (d : Dev nD) :
    (bigSep Finset.univ fun c : Fin ((K (F := F)).nCore 0) => (P m).st 0 d c)
      = iprop((bigSep Finset.univ fun c : Fin 2 => readAt m d (qCore c)) ∗ oLoc d ↦{fullShare} oh m d) := by
  rw [oPts_cores, ← bigSep_sep', ← bigSep_seqs (F := F)]; rfl
theorem dn0_eq (d : Dev nD) :
    (bigSep Finset.univ fun c : Fin ((K (F := F)).nCore 0) => (P m).dn 0 d c)
      = iprop((bigSep Finset.univ fun c : Fin 2 => readAt m d (qCore c)) ∗ oLoc d ↦{fullShare} oh' m d) := by
  rw [oPts_cores, ← bigSep_sep', ← bigSep_seqs (F := F)]; rfl

abbrev FIN (d : Dev nD) : sProp 𝕄 := held (SparseCore.T d) (ucRefs τ sig) (fin m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (launchContents m d) from
    unscopedBufs_held d (launchContents m d), main_eq]
  iintro ⟨#Hctx, Hst, ⟨Hb, Hheld, Hts, -⟩, -⟩
  iapply (wp_seq 𝒱 none Set.univ d (ucRefs τ sig) _ opsPre opsPre_sub opsPre_fresh (launchContents m d)) $$ [Hb Hheld]
  · isplitl [Hb]; · iexact Hb
    iexact Hheld
  iintro ⟨Hb, Hheld⟩
  ihave Hheld' := (Entails.of_eq (show (held (SparseCore.T d) (ucRefs τ sig) (after opsPre (launchContents m d)) : sProp 𝕄)
    = iprop(((xLoc d ↦{fullShare} xh m d) ∗ (yLoc d ↦{fullShare} yh m d) ∗ (zLoc d ↦{fullShare} zh m d) ∗ (tLoc d ↦{fullShare} th m d) ∗ oLoc d ↦{fullShare} oh m d)
        ∗ held (SparseCore.T d) (ucRefs τ sig \ callSet) (atCall m d)) by
      rw [← held_callSet_before]; exact held_sub_split _ callSet_sub (atCall m d))) $$ Hheld
  icases Hheld' with ⟨⟨Hx, Hy, Hz, Ht, Ho⟩, Hrest⟩
  ihave Hr := (readPts_toks d fullShare 2 (xh m d) (yh m d) (zh m d) (th m d)).1 $$ [Hx Hy Hz Ht]
  · isplitl [Hx]; · iexact Hx
    isplitl [Hy]; · iexact Hy
    isplitl [Hz]; · iexact Hz
    iexact Ht
  icases Hr with ⟨Hdrop, Hr⟩
  rw [wp_bind]
  iapply ((K (F := F)).wp_run (D (F := F)) 𝒱 (EH := EH) (P := P m) κ d 0) $$ [Hst Hr Ho Hb Hts Hdrop Hrest]
  isplitr; · iexact Hctx
  isplitl [Hst]; · iexact Hst
  isplitl [Hr Ho]
  · rw [st0_eq]
    isplitl [Hr]; · iexact Hr
    iexact Ho
  iintro ⟨Hst, Hdn⟩
  ihave Hdn' := (Entails.of_eq (dn0_eq m d)) $$ Hdn
  icases Hdn' with ⟨Hr, Ho⟩
  ihave Hr' := (readPts_toks d fullShare 2 (xh m d) (yh m d) (zh m d) (th m d)).2 $$ [Hdrop Hr]
  · isplitl [Hdrop]; · iexact Hdrop
    iexact Hr
  icases Hr' with ⟨Hx, Hy, Hz, Ht⟩
  ihave Hheld := (Entails.of_eq (show iprop(((xLoc d ↦{fullShare} xh m d) ∗ (yLoc d ↦{fullShare} yh m d) ∗ (zLoc d ↦{fullShare} zh m d) ∗ (tLoc d ↦{fullShare} th m d) ∗ oLoc d ↦{fullShare} oh' m d)
        ∗ held (SparseCore.T d) (ucRefs τ sig \ callSet) (atCall m d)) = (held (SparseCore.T d) (ucRefs τ sig) (afterCall m d) : sProp 𝕄) by
      rw [← held_callSet_after, ← held_rest]; exact (held_sub_split _ callSet_sub (afterCall m d)).symm)) $$ [Hx Hy Hz Ht Ho Hrest]
  · isplitl [Hx Hy Hz Ht Ho]
    · isplitl [Hx]; · iexact Hx
      isplitl [Hy]; · iexact Hy
      isplitl [Hz]; · iexact Hz
      isplitl [Ht]; · iexact Ht
      iexact Ho
    iexact Hrest
  iapply (wp_seq 𝒱 none Set.univ d (ucRefs τ sig) _ opsPost opsPost_sub opsPost_fresh (afterCall m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = fin m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-! ## The program's run -/

def QC : PUnit × MemSt nD τ sig (Elt F) → Prop := fun r => (∀ d : Dev nD, ∀ b ∈ ucRefs τ sig, r.2.mem (d, b) = fin m d b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## What the end holds -/

theorem mem_uc (r : Ref sig .tc) (h : ¬ r.isScoped := by decide) : Proc.devRef .tc r ∈ ucRefs τ sig :=
  Finset.mem_filter.mpr ⟨devRef_mem_tcRefs r, h⟩

/-- The result: the tiles' sums added up, divided by the number of points. -/
theorem fin_result (d : Dev nD) :
    fin m d (Proc.devRef .tc main_v15)
      = Host.divf (Host.reduceAdd (oh' m d) (constant S_ .f32 0x00000000#32) reducesTo_S32x16_S_d0_1 h_S_) (constant S_ .f32 0x47C35000#32) := by
  rw [← afterCall_self m d]
  unfold fin
  after_results_simp

end Cert.Proof.IdealRun

end
-- ==== Proof.Frames.lean ====
/-
  The claims on the programs' runs: each terminates without a fault, leaves its arguments as they were and every
  counter at zero. For the kernel and its idealization this reads `run_main` at the arguments, for the reference its
  generated run.
-/
module

public import proofs.«01_k».proof.Proof.Launch
public import proofs.«01_k».proof.Proof.BitsLaunch
public import proofs.«01_k».proof.Proof.Gen.ReferenceIdeal
public import proofs.«01_k».proof.Proof.Gen.ReferenceIdeal.Run
public import proofs.«01_k».proof.Proof.Gen.Pre_in_range
public import Idealize.ShloMosaic.Lib.Quiescent

@[expose] public section

noncomputable section

namespace Cert.Proof

open Idealize.ShloMosaic Idealize.ShloMosaic.StableHlo Idealize.SL.Sem

/-! ## The arguments are written by no host operation -/

namespace IdealRun
open Cert.KernelIdeal Cert.KernelIdeal.Gen
variable {F : FTy → Type} [FloatOps F] [Named F] (m : (ℓ : Loc nD τ sig) → Buf (Elt F) ℓ)

/-- What the operations before the call write. -/
abbrev writesPre : List (Ref sig .tc) :=
  [main_c, main_v0, main_c_0, main_v1, main_c_1, main_v2, main_v3, main_c_2, main_c_3, main_v4, main_v5, main_c_4, main_call0_v0, main_v6,
    main_v7, main_v8, main_v9, main_v10, main_v11, main_v12]
theorem writes_opsPre : (opsPre : List (HloOp τ sig (Elt F))).Forall fun op => op.writes ⊆ (writesPre.map (Proc.devRef (τ := τ) .tc)).toFinset :=
  forall_writes_sub_of_map rfl
theorem writes_opsPost : (opsPost : List (HloOp τ sig (Elt F))).Forall fun op =>
    op.writes ⊆ (([main_cst, main_v14, main_cst_5, main_v15] : List (Ref sig .tc)).map (Proc.devRef (τ := τ) .tc)).toFinset :=
  forall_writes_sub_of_map rfl

theorem fin_kept (d : Dev nD) (r : Ref sig .tc) (h13 : r ≠ main_v13) (hpre : r ∉ writesPre)
    (hpost : r ∉ ([main_cst, main_v14, main_cst_5, main_v15] : List (Ref sig .tc))) :
    fin m d (Proc.devRef .tc r) = m (d, Proc.devRef .tc r) := by
  unfold fin
  rw [after_of_writes_sub _ _ writes_opsPost hpost, afterCall_ne m d (devRef_ne_of_ne h13)]
  exact after_of_writes_sub _ _ writes_opsPre hpre

/-- The arguments of any run's end, and its counters. -/
theorem kept {r : PUnit × MemSt nD τ sig (Elt F)} (h : QC m r) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  ⟨fun c => ⟨(h.1 c _ (mem_uc main_arg0)).trans (fin_kept m c main_arg0 (by decide) (by decide) (by decide)),
    (h.1 c _ (mem_uc main_arg1)).trans (fin_kept m c main_arg1 (by decide) (by decide) (by decide)),
    (h.1 c _ (mem_uc main_arg2)).trans (fin_kept m c main_arg2 (by decide) (by decide) (by decide))⟩, h.2⟩
end IdealRun

namespace BitsRun
open Cert.Kernel Cert.Kernel.Gen
variable {F : FTy → Type} [FloatOps F] (m : (ℓ : Loc nD τ sig) → Buf (Elt F) ℓ)

/-- What the operations before the call write. -/
abbrev writesPre : List (Ref sig .tc) :=
  [main_c, main_v0, main_c_0, main_v1, main_c_1, main_v2, main_v3, main_c_2, main_c_3, main_v4, main_v5, main_c_4, main_call0_v0, main_v6,
    main_v7, main_v8, main_v9, main_v10, main_v11, main_v12]
theorem writes_opsPre : (opsPre : List (HloOp τ sig (Elt F))).Forall fun op => op.writes ⊆ (writesPre.map (Proc.devRef (τ := τ) .tc)).toFinset :=
  forall_writes_sub_of_map rfl
theorem writes_opsPost : (opsPost : List (HloOp τ sig (Elt F))).Forall fun op =>
    op.writes ⊆ (([main_cst, main_v14, main_cst_5, main_v15] : List (Ref sig .tc)).map (Proc.devRef (τ := τ) .tc)).toFinset :=
  forall_writes_sub_of_map rfl

theorem fin_kept (d : Dev nD) (r : Ref sig .tc) (h13 : r ≠ main_v13) (hpre : r ∉ writesPre)
    (hpost : r ∉ ([main_cst, main_v14, main_cst_5, main_v15] : List (Ref sig .tc))) :
    fin m d (Proc.devRef .tc r) = m (d, Proc.devRef .tc r) := by
  unfold fin
  rw [after_of_writes_sub _ _ writes_opsPost hpost, afterCall_ne m d (devRef_ne_of_ne h13)]
  exact after_of_writes_sub _ _ writes_opsPre hpre

theorem kept {r : PUnit × MemSt nD τ sig (Elt F)} (h : QC m r) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  ⟨fun c => ⟨(h.1 c _ (mem_uc main_arg0)).trans (fin_kept m c main_arg0 (by decide) (by decide) (by decide)),
    (h.1 c _ (mem_uc main_arg1)).trans (fin_kept m c main_arg1 (by decide) (by decide) (by decide)),
    (h.1 c _ (mem_uc main_arg2)).trans (fin_kept m c main_arg2 (by decide) (by decide) (by decide))⟩, h.2⟩
end BitsRun

/-! ## The claims -/

theorem frame_kernel : Cert.quiescent_Kernel := fun m ρ _ =>
  (θ_run Cert.Kernel.defs _ _).mono (fun _ h => BitsRun.kept m h) (BitsRun.run_main (F := Bits) m ρ)

theorem frame_ideal : Cert.quiescent_KernelIdeal := fun m ρ _ =>
  (θ_run Cert.KernelIdeal.defs _ _).mono (fun _ h => IdealRun.kept m h) (IdealRun.run_main (F := Ideal) m ρ)

theorem frame_ideal_in_range : Cert.quiescent_KernelIdeal_pre_in_range := fun m ρ _ =>
  (θ_run Cert.KernelIdeal.defs _ _).mono (fun _ h => IdealRun.kept m h) (IdealRun.run_main (F := Ideal) m ρ)

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_ref_in_range : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run m ρ)

/-- The named constant is the value the table gives it. -/
theorem preserves : Cert.preserves_Kernel_KernelIdeal :=
  ⟨rfl, fun _ => IdealRules.named_const.ideal_named _ _ _ _ rfl, IdealRules.named_const.ideal_named_scalar _ _ _ _ rfl⟩

end Cert.Proof

end
-- ==== Proof.Cell.lean ====
/-
  The arithmetic of one coordinate, on the extended reals.

  A coordinate `p` in [0, 1] lies in cell number `cell p`, the whole part of `10 p`, and its place inside that cell is
  `place p`, the rest. The kernel finds both from `p` alone; the reference first adds a shift `s` with `10 s` a whole number,
  so that its cell numbers are larger by `10 s`. The lemmas show that the two agree and that none of the clamps around them
  acts.
-/
module

public import Idealize.ShloMosaic.PureOps.Ideal
public import Idealize.ShloMosaic.PureOps.Ideal.Laws
public import Idealize.ShloMosaic.Lib.IdealHost

@[expose] public section

noncomputable section

namespace Cert.Proof

open Idealize.ShloMosaic

/-! ## The literals -/

theorem lit_ten : Ideal.ofBits .f32 0x41200000#32 = ((10 : ℝ) : EReal) := by
  simp [Ideal.ofBits, Ideal.ieee, -EReal.coe_mul]; norm_num

theorem lit_twenty : Ideal.ofBits .f32 0x41A00000#32 = ((20 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_half : Ideal.ofBits .f32 0x3F000000#32 = ((2⁻¹ : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

/-- A real over a real other than zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-! ## Cell and place -/

/-- The cell of a coordinate. -/
def cell (p : ℝ) : ℕ := ⌊10 * p⌋₊

/-- The place inside its cell, from 0 to 1. -/
def place (p : ℝ) : ℝ := 10 * p - cell p

theorem cell_le {p : ℝ} (h1 : p ≤ 1) : cell p ≤ 10 := by
  unfold cell
  calc ⌊10 * p⌋₊ ≤ ⌊(10 : ℝ)⌋₊ := Nat.floor_le_floor (by linarith)
    _ = 10 := by norm_num

/-- Shifted by a whole number of cells, the whole part grows by that number. -/
theorem floor_shift {p s : ℝ} {N : ℕ} (h0 : 0 ≤ p) (hs : 10 * s = N) : ⌊(p + s) * 10⌋ = ((N + cell p : ℕ) : ℤ) := by
  have e : (p + s) * 10 = 10 * p + (N : ℤ) := by push_cast; rw [← hs]; ring
  rw [e, Int.floor_add_intCast, cell, Nat.cast_add, Int.natCast_floor_eq_floor (by linarith), add_comm]

/-! ## Words -/

/-- A whole number below 2^31 becomes the word of that number. -/
theorem fptosi_nat {n : ℕ} {r : ℝ} (hn : n < 2 ^ 31) (h0 : 0 ≤ r) (hr : ⌊r⌋ = (n : ℤ)) : Ideal.fptosi 32 (r : EReal) = BitVec.ofNat 32 n := by
  unfold Ideal.fptosi
  show BitVec.ofInt 32 (max _ (min _ (if 0 ≤ r then ⌊r⌋ else ⌈r⌉))) = _
  rw [if_pos h0, hr]
  have : max (-((2 ^ (32 - 1) : ℕ) : ℤ)) (min (((2 ^ (32 - 1) : ℕ) : ℤ) - 1) (n : ℤ)) = (n : ℤ) := by
    norm_num at hn ⊢
    omega
  rw [this]
  rfl

theorem toInt_small {n : ℕ} (hn : n < 2 ^ 31) : (BitVec.ofNat 32 n).toInt = (n : ℤ) := by
  rw [BitVec.toInt_eq_toNat_cond, BitVec.toNat_ofNat]
  norm_num at hn ⊢
  omega

/-- The kernel's clamp leaves the words 0 to 11 alone. -/
theorem clamp_word {n : ℕ} (hn : n ≤ 11) : IntOp.minsi (IntOp.maxsi (BitVec.ofNat 32 n) 0#32) 11#32 = BitVec.ofNat 32 n := by
  interval_cases n <;> decide

theorem next_word {n : ℕ} (hn : n ≤ 10) : IntOp.minsi (IntOp.addi (BitVec.ofNat 32 n) 1#32) 11#32 = BitVec.ofNat 32 (n + 1) := by
  interval_cases n <;> decide

/-! ## What the kernel computes -/

/-- The kernel's cell number. -/
theorem kernel_cell {p : ℝ} (h0 : 0 ≤ p) (h1 : p ≤ 1) :
    IntOp.minsi (IntOp.maxsi (Ideal.fptosi 32 ((p : EReal) * Ideal.ofBits .f32 0x41200000#32)) 0#32) 11#32 = BitVec.ofNat 32 (cell p) := by
  have hc := cell_le h1
  rw [lit_ten, ← EReal.coe_mul,
    fptosi_nat (n := cell p) (by omega) (by linarith) (by rw [mul_comm, cell, Int.natCast_floor_eq_floor (by linarith)])]
  exact clamp_word (by omega)

/-- The kernel's place inside the cell. -/
theorem kernel_place {p : ℝ} (h1 : p ≤ 1) :
    ((p : EReal) - (((BitVec.ofNat 32 (cell p)).toInt : ℝ) : EReal) * ((10⁻¹ : ℝ) : EReal)) * Ideal.ofBits .f32 0x41200000#32 = (place p : EReal) := by
  have hc := cell_le h1
  rw [toInt_small (by omega), lit_ten, ← EReal.coe_mul, ← EReal.coe_sub, ← EReal.coe_mul, place]
  congr 1
  push_cast
  ring

/-! ## What the reference computes -/

section Shifted

variable {p s : ℝ} {N : ℕ} (h0 : 0 ≤ p) (h1 : p ≤ 1) (hs : 10 * s = N)
include h0 h1 hs

/-- The reference's lower cell number, as a float. -/
theorem ref_min : Ideal.liftRound Int.floor (((p : EReal) + (s : EReal)) * Ideal.ofBits .f32 0x41200000#32) = (((N + cell p : ℕ) : ℝ) : EReal) := by
  rw [lit_ten, ← EReal.coe_add, ← EReal.coe_mul]
  rw [Ideal.liftRound_coe, floor_shift h0 hs]
  norm_cast

/-- The reference's place inside the cell. -/
theorem ref_place :
    (((((p : EReal) + (s : EReal)) - Ideal.div (((N + cell p : ℕ) : ℝ) : EReal) (Ideal.ofBits .f32 0x41200000#32)) * Ideal.ofBits .f32 0x41A00000#32
      - Ideal.ofBits .f32 0x3F800000#32) + Ideal.ofBits .f32 0x3F800000#32) * Ideal.ofBits .f32 0x3F000000#32 = (place p : EReal) := by
  rw [lit_ten, lit_twenty, lit_one, lit_half, div_real _ _ (by norm_num), ← EReal.coe_add, ← EReal.coe_sub, ← EReal.coe_mul, ← EReal.coe_sub,
    ← EReal.coe_add, ← EReal.coe_mul, place]
  congr 1
  push_cast
  rw [← hs]
  ring

end Shifted

/-- The reference's clip to `[0, top]` leaves a whole number up to `top` alone. -/
theorem ref_clip {n top : ℕ} (hn : n ≤ top) (ht : top < 2 ^ 31) :
    Ideal.fptosi 32 (min (((BitVec.ofNat 32 top).toInt : ℝ) : EReal) (max (((0#32 : BitVec 32).toInt : ℝ) : EReal) (((n : ℕ) : ℝ) : EReal))) = BitVec.ofNat 32 n := by
  rw [toInt_small ht, show ((0#32 : BitVec 32).toInt : ℝ) = 0 from by simp]
  rw [max_eq_right (by exact_mod_cast Nat.zero_le n), min_eq_right (by exact_mod_cast hn)]
  exact fptosi_nat (by omega) (Nat.cast_nonneg n) (by simp)

/-- The next cell number, as a float. -/
theorem ref_next (n : ℕ) : (((n : ℕ) : ℝ) : EReal) + Ideal.ofBits .f32 0x3F800000#32 = (((n + 1 : ℕ) : ℝ) : EReal) := by
  rw [lit_one, ← EReal.coe_add]
  push_cast
  rfl

end Cert.Proof

end
-- ==== Proof.Lane.lean ====
/-
  What one lane of the kernel computes, on the extended reals.

  `point f px py pz` is the value the program gives a point: the eight corners of its cell read from `f`, weighted by the
  point's place in the cell, then the Huber value. `laneVal_point` says that a lane holding the point's three coordinates
  computes it.
-/
module

public import proofs.«01_k».proof.Proof.Cell
public import proofs.«01_k».proof.Proof.Trip

@[expose] public section

noncomputable section

namespace Cert.Proof

open Idealize.ShloMosaic

/-- Eight corners weighted by the place `u`, `v`, `w` in the cell. -/
def blend (u v w f1 f2 f3 f4 f5 f6 f7 f8 : Ideal .f32) : Ideal .f32 :=
  f1 * (u * v * w) + f2 * (u * v * (Ideal.ofBits .f32 0x3F800000#32 - w)) + f3 * (u * (Ideal.ofBits .f32 0x3F800000#32 - v) * w)
    + f4 * (u * (Ideal.ofBits .f32 0x3F800000#32 - v) * (Ideal.ofBits .f32 0x3F800000#32 - w))
    + f5 * ((Ideal.ofBits .f32 0x3F800000#32 - u) * v * w) + f6 * ((Ideal.ofBits .f32 0x3F800000#32 - u) * v * (Ideal.ofBits .f32 0x3F800000#32 - w))
    + f7 * ((Ideal.ofBits .f32 0x3F800000#32 - u) * (Ideal.ofBits .f32 0x3F800000#32 - v) * w)
    + f8 * ((Ideal.ofBits .f32 0x3F800000#32 - u) * (Ideal.ofBits .f32 0x3F800000#32 - v) * (Ideal.ofBits .f32 0x3F800000#32 - w))

/-- The Huber value with threshold one. -/
def huber (d : Ideal .f32) : Ideal .f32 :=
  Scalar.select (Ideal.cmp .olt (max d (-d)) (Ideal.ofBits .f32 0x3F800000#32)) (Ideal.ofBits .f32 0x3F000000#32 * d * d)
    (max d (-d) - Ideal.ofBits .f32 0x3F000000#32)

/-- The value of the point `(px, py, pz)`, with `f a b c` the voxel at the cells `a`, `b`, `c`. -/
def point (f : ℕ → ℕ → ℕ → EReal) (px py pz : ℝ) : EReal :=
  huber (blend (place px) (place py) (place pz)
    (f (cell px + 1) (cell py + 1) (cell pz + 1)) (f (cell px + 1) (cell py + 1) (cell pz))
    (f (cell px + 1) (cell py) (cell pz + 1)) (f (cell px + 1) (cell py) (cell pz))
    (f (cell px) (cell py + 1) (cell pz + 1)) (f (cell px) (cell py + 1) (cell pz))
    (f (cell px) (cell py) (cell pz + 1)) (f (cell px) (cell py) (cell pz)))

namespace IdealRun

open Cert.KernelIdeal Cert.KernelIdeal.Gen

variable {x y z : Vec Ideal S16 .f32} {j : S16.Idx} {px py pz : ℝ}

section Coordinate

variable {v : Vec Ideal S16 .f32} {p : ℝ} (h0 : 0 ≤ p) (h1 : p ≤ 1) (hv : v j = (p : EReal))
include h0 h1 hv

theorem low_x : k0_pay3 v j = BitVec.ofNat 32 (cell p) := by
  rw [← kernel_cell h0 h1, ← hv]; rfl
theorem low_y : k0_pay6 v j = BitVec.ofNat 32 (cell p) := low_x h0 h1 hv
theorem low_z : k0_pay10 (k0_pay9 v) j = BitVec.ofNat 32 (cell p) := low_x h0 h1 hv

theorem high_x : k0_pay4 v j = BitVec.ofNat 32 (cell p + 1) := by
  rw [← next_word (cell_le h1), ← low_x h0 h1 hv]; rfl
theorem high_y : k0_pay7 v j = BitVec.ofNat 32 (cell p + 1) := high_x h0 h1 hv
theorem high_z : k0_pay11 (k0_pay9 v) j = BitVec.ofNat 32 (cell p + 1) := high_x h0 h1 hv

theorem place_x : k0_pay5 v j = (place p : EReal) := by
  rw [← kernel_place h1, ← low_x h0 h1 hv, ← hv]; rfl
theorem place_y : k0_pay8 v j = (place p : EReal) := place_x h0 h1 hv
theorem place_z : k0_pay12 v (k0_pay9 v) j = (place p : EReal) := place_x h0 h1 hv

end Coordinate

/-- The table `T` holds `f`: entry `144 a + 12 b + c` is `f a b c`, for cells up to 11. -/
def Holds (T : FVec Ideal S1728 .f32) (f : ℕ → ℕ → ℕ → EReal) : Prop :=
  ∀ (a b c : ℕ) (i : S1728.Idx), a ≤ 11 → b ≤ 11 → c ≤ 11 → (i 0).val = a * 144 + b * 12 + c → T i = f a b c

/-- A lookup at the position of the cells `a`, `b`, `c`. -/
theorem lookup {T : FVec Ideal S1728 .f32} {f : ℕ → ℕ → ℕ → EReal} (hT : Holds T f) {a b c : ℕ} (ha : a ≤ 11) (hb : b ≤ 11) (hc : c ≤ 11)
    {idx : Fin 1 → IVec S16 32} (h : ∀ r x, (idx r x).toNat < S1728.size r)
    (hi : idx 0 j = IntOp.addi (IntOp.addi (IntOp.muli (BitVec.ofNat 32 a) 144#32) (IntOp.muli (BitVec.ofNat 32 b) 12#32)) (BitVec.ofNat 32 c)) :
    (loadIdx (F := Ideal) (e := .f32) T idx h j : EReal) = f a b c := by
  refine hT a b c _ ha hb hc ?_
  show (idx 0 j).toNat = _
  have e : ∀ {n : ℕ}, n ≤ 11 → (BitVec.ofNat 32 n).toNat = n := fun hn => by rw [BitVec.toNat_ofNat]; omega
  rw [hi, pos_toNat (by rw [e ha]; exact ha) (by rw [e hb]; exact hb) (by rw [e hc]; exact hc), e ha, e hb, e hc]

variable (hx0 : 0 ≤ px) (hx1 : px ≤ 1) (hy0 : 0 ≤ py) (hy1 : py ≤ 1) (hz0 : 0 ≤ pz) (hz1 : pz ≤ 1)
  (hx : x j = (px : EReal)) (hy : y j = (py : EReal)) (hz : z j = (pz : EReal))
include hx0 hx1 hy0 hy1 hz0 hz1 hx hy hz

/-- A lane holding a point of the cube computes that point's value. -/
theorem laneVal_point {T : FVec Ideal S1728 .f32} {f : ℕ → ℕ → ℕ → EReal} (hT : Holds T f) : laneVal x y z T j = point f px py pz := by
  have cx := cell_le hx1
  have cy := cell_le hy1
  have cz := cell_le hz1
  have lx := low_x hx0 hx1 hx
  have ly := low_y hy0 hy1 hy
  have lz := low_z hz0 hz1 hz
  have gx := high_x hx0 hx1 hx
  have gy := high_y hy0 hy1 hy
  have gz := high_z hz0 hz1 hz
  have e1 := lookup hT (j := j) (a := cell px + 1) (b := cell py + 1) (c := cell pz + 1) (by omega) (by omega) (by omega) (hold1 x y z)
    (by rw [← gx, ← gy, ← gz]; rfl)
  have e2 := lookup hT (j := j) (a := cell px + 1) (b := cell py + 1) (c := cell pz) (by omega) (by omega) (by omega) (hold2 x y z)
    (by rw [← gx, ← gy, ← lz]; rfl)
  have e3 := lookup hT (j := j) (a := cell px + 1) (b := cell py) (c := cell pz + 1) (by omega) (by omega) (by omega) (hold3 x y z)
    (by rw [← gx, ← ly, ← gz]; rfl)
  have e4 := lookup hT (j := j) (a := cell px + 1) (b := cell py) (c := cell pz) (by omega) (by omega) (by omega) (hold4 x y z)
    (by rw [← gx, ← ly, ← lz]; rfl)
  have e5 := lookup hT (j := j) (a := cell px) (b := cell py + 1) (c := cell pz + 1) (by omega) (by omega) (by omega) (hold5 x y z)
    (by rw [← lx, ← gy, ← gz]; rfl)
  have e6 := lookup hT (j := j) (a := cell px) (b := cell py + 1) (c := cell pz) (by omega) (by omega) (by omega) (hold6 x y z)
    (by rw [← lx, ← gy, ← lz]; rfl)
  have e7 := lookup hT (j := j) (a := cell px) (b := cell py) (c := cell pz + 1) (by omega) (by omega) (by omega) (hold7 x y z)
    (by rw [← lx, ← ly, ← gz]; rfl)
  have e8 := lookup hT (j := j) (a := cell px) (b := cell py) (c := cell pz) (by omega) (by omega) (by omega) (hold8 x y z)
    (by rw [← lx, ← ly, ← lz]; rfl)
  rw [point, ← e1, ← e2, ← e3, ← e4, ← e5, ← e6, ← e7, ← e8, ← place_x hx0 hx1 hx, ← place_y hy0 hy1 hy, ← place_z hz0 hz1 hz]
  rfl

end IdealRun

end Cert.Proof

end
-- ==== Proof.Inputs.lean ====
/-
  What the tiles read, on the extended reals, and what the precondition says of the arguments.

  The host lays the points out as three arrays of 100352 (the 100000 points, then padding) and cuts from the voxels the 12 by
  12 by 12 box that starts at row 100, column 100 and five times the height. `corner` names the voxel at a cell of that box;
  `holds_table` says that the table the tiles are given holds these.
-/
module

public import proofs.«01_k».proof.Proof.Launch
public import proofs.«01_k».proof.Proof.Lane
public import proofs.«01_k».proof.Proof.Gen.Pre_in_range
public import Idealize.ShloMosaic.Lib.Pointwise
public import Idealize.ShloMosaic.Lib.ReduceAll
public import Idealize.ShloMosaic.Lib.DynamicIndex

@[expose] public section

noncomputable section

namespace Cert.Proof

open Cert.KernelIdeal Cert.KernelIdeal.Gen
open Idealize.ShloMosaic Idealize.ShloMosaic.StableHlo

/-! ## The precondition -/

/-- Every coordinate of every point is a real in [0, 1], named by `p`, and the height is a number `h` up to 13. -/
structure InRange (pts : FVec Ideal S100000x3 .f32) (hw : IVec S_ 32) (p : Fin 100000 → Fin 3 → ℝ) (h : ℕ) : Prop where
  at_ : ∀ n k, pts (ix2 n k) = (p n k : EReal)
  low : ∀ n k, 0 ≤ p n k
  high : ∀ n k, p n k ≤ 1
  height : hw ix0 = BitVec.ofNat 32 h
  height_le : h ≤ 13

/-- The precondition says so. -/
theorem inRange_of_pre (vox : FVec Ideal S200x200x80 .f32) (pts : FVec Ideal S100000x3 .f32) (hw : IVec S_ 32)
    (e : Cert.Pre_in_range.fn (F := Ideal) vox pts hw = fun _ => 1#1) : ∃ p h, InRange pts hw p h := by
  have e0 := congrFun e ix0
  unfold Cert.Pre_in_range.fn at e0
  obtain ⟨e1, e2⟩ := IntOp.andi_eq_one.1 e0
  obtain ⟨e3, e4⟩ := IntOp.andi_eq_one.1 e1
  obtain ⟨e5, e6⟩ := IntOp.andi_eq_one.1 e2
  have lo : ∀ i, (0 : EReal) ≤ pts i := fun i => by
    have : BitVec.ofBool (decide (Ideal.ofBits .f32 0x00000000#32 ≤ pts i)) = 1#1 := Host.reduce_andi_all _ _ _ _ _ e3 i
    rw [Ideal.ofBits_zero_f32] at this
    by_contra hc
    rw [decide_eq_false hc] at this
    exact absurd this (by decide)
  have hi : ∀ i, pts i ≤ ((1 : ℝ) : EReal) := fun i => by
    have : BitVec.ofBool (decide (pts i ≤ Ideal.ofBits .f32 0x3F800000#32)) = 1#1 := Host.reduce_andi_all _ _ _ _ _ e4 i
    rw [lit_one] at this
    by_contra hc
    rw [decide_eq_false hc] at this
    exact absurd this (by decide)
  have hr : ∀ i, ((pts i).toReal : EReal) = pts i := fun i =>
    EReal.coe_toReal (ne_top_of_le_ne_top (EReal.coe_ne_top 1) (hi i)) (ne_bot_of_le_ne_bot (EReal.coe_ne_bot 0) (lo i))
  have b1 : 0 ≤ (hw ix0).toInt := by
    have : BitVec.ofBool (decide ((0#32 : BitVec 32).toInt ≤ (hw ix0).toInt)) = 1#1 := e5
    by_contra hc
    rw [decide_eq_false (by simpa using hc)] at this
    exact absurd this (by decide)
  have b2 : (hw ix0).toInt ≤ 13 := by
    have : BitVec.ofBool (decide ((hw ix0).toInt ≤ (13#32 : BitVec 32).toInt)) = 1#1 := e6
    by_contra hc
    rw [decide_eq_false (by simpa using hc)] at this
    exact absurd this (by decide)
  refine ⟨fun n k => (pts (ix2 n k)).toReal, (hw ix0).toNat, fun n k => (hr _).symm, fun n k => ?_, fun n k => ?_, ?_, ?_⟩
  · have := lo (ix2 n k); rw [← hr] at this; exact_mod_cast this
  · have := hi (ix2 n k); rw [← hr] at this; exact_mod_cast this
  · simp
  · rw [BitVec.toInt_eq_toNat_cond] at b1 b2
    split at b1 <;> omega

/-- The voxel at cell `(a, b, c)` of the box. -/
def corner (vox : FVec Ideal S200x200x80 .f32) (h a b c : ℕ) : EReal :=
  vox (ix3 ⟨(100 + a) % 200, Nat.mod_lt _ (by decide)⟩ ⟨(100 + b) % 200, Nat.mod_lt _ (by decide)⟩ ⟨(5 * h + c) % 80, Nat.mod_lt _ (by decide)⟩)

namespace IdealRun

variable (m : (ℓ : Loc nD τ sig) → Buf (Elt Ideal) ℓ)

/-! ## The arguments and the padded points -/

/-- The voxels, the points and the height. -/
abbrev voxA (d : Dev nD) : FVec Ideal S200x200x80 .f32 := m ((d.tc : Thread nD τ).loc main_arg0)
abbrev ptsA (d : Dev nD) : FVec Ideal S100000x3 .f32 := m ((d.tc : Thread nD τ).loc main_arg1)
abbrev hA (d : Dev nD) : IVec S_ 32 := m ((d.tc : Thread nD τ).loc main_arg2)

/-- The points with 352 rows of zeros after them. -/
abbrev padded (d : Dev nD) : FVec Ideal S100352x3 .f32 :=
  pad S100352x3 ![0, 0] ![352, 0] ![0, 0] (ptsA m d) (sitofp .f32 (constantI S_ 32 0#32)) pads_S100000x3_S100352x3_03520_000 h_S_

theorem xh_eq (d : Dev nD) : xh m d = shapeCast S100352 (extractStridedSlice S100352x1 ![0, 0] (padded m d) slices_S100352x3_S100352x1_0_0) shapeCasts_S100352x1_S100352 := by
  unfold xh atCall
  after_results_simp
  rfl
theorem yh_eq (d : Dev nD) : yh m d = shapeCast S100352 (extractStridedSlice S100352x1 ![0, 1] (padded m d) slices_S100352x3_S100352x1_0_1) shapeCasts_S100352x1_S100352 := by
  unfold yh atCall
  after_results_simp
  rfl
theorem zh_eq (d : Dev nD) : zh m d = shapeCast S100352 (extractStridedSlice S100352x1 ![0, 2] (padded m d) slices_S100352x3_S100352x1_0_2) shapeCasts_S100352x1_S100352 := by
  unfold zh atCall
  after_results_simp
  rfl

/-- Row `n` of the padded points is point `n`, for the 100000 points. -/
theorem padded_at (d : Dev nD) (n : Fin 100352) (k : Fin 3) (hn : n.val < 100000) : padded m d (ix2 n k) = ptsA m d (ix2 ⟨n.val, hn⟩ k) := by
  pointwise
  rw [dif_pos hn]

/-- So the tiles' three arrays hold the points' coordinates. -/
theorem xh_at (d : Dev nD) (n : Fin 100352) (hn : n.val < 100000) : xh m d (ix1 n) = ptsA m d (ix2 ⟨n.val, hn⟩ 0) := by
  rw [xh_eq, ← padded_at m d n 0 hn]
  pointwise
theorem yh_at (d : Dev nD) (n : Fin 100352) (hn : n.val < 100000) : yh m d (ix1 n) = ptsA m d (ix2 ⟨n.val, hn⟩ 1) := by
  rw [yh_eq, ← padded_at m d n 1 hn]
  pointwise
theorem zh_at (d : Dev nD) (n : Fin 100352) (hn : n.val < 100000) : zh m d (ix1 n) = ptsA m d (ix2 ⟨n.val, hn⟩ 2) := by
  rw [zh_eq, ← padded_at m d n 2 hn]
  pointwise

/-! ## The table -/

/-- The box starts at five times the height. -/
theorem zstart (d : Dev nD) (h : ℕ) (hh : h ≤ 13) (hw : hA m d ix0 = BitVec.ofNat 32 h) :
    (select (cmpi .slt (muli (constantI S_ 32 5#32) (hA m d)) (constantI S_ 32 0#32)) (addi (muli (constantI S_ 32 5#32) (hA m d)) (constantI S_ 32 80#32))
      (muli (constantI S_ 32 5#32) (hA m d)) (Shape.Idx.first h_S_)).toInt = 5 * (h : ℤ) := by
  have e : (muli (constantI S_ 32 5#32) (hA m d)) (Shape.Idx.first h_S_) = BitVec.ofNat 32 (5 * h) := by
    rw [show Shape.Idx.first h_S_ = ix0 from Subsingleton.elim _ _]
    show IntOp.muli 5#32 (hA m d ix0) = _
    rw [hw]
    interval_cases h <;> decide
  have t : ((muli (constantI S_ 32 5#32) (hA m d)) (Shape.Idx.first h_S_)).toInt = 5 * (h : ℤ) := by
    rw [e, toInt_small (by omega)]; push_cast; rfl
  rw [select_slt_zero_of_nonneg _ _ _ _ (by omega), t]

theorem th_eq (d : Dev nD) (h : ℕ) (hh : h ≤ 13) (hw : hA m d ix0 = BitVec.ofNat 32 h) (off : S200x200x80.Slices ![100, 100, 5 * h] S12x12x12) :
    th m d = shapeCast S1728 (extractStridedSlice S12x12x12 ![100, 100, 5 * h] (voxA m d) off) shapeCasts_S12x12x12_S1728 := by
  unfold th atCall
  after_results_simp
  rw [Host.dynamicSlice_eq_extractStridedSlice S12x12x12 _ _ ![100, 100, 5 * h] _ off (show ∀ a : Fin 3, _ by
    refine Fin.forall_fin_succ.2 ⟨?_, Fin.forall_fin_succ.2 ⟨?_, Fin.forall_fin_succ.2 ⟨?_, fun a => a.elim0⟩⟩⟩
    · simp
      after_results_simp
      rfl
    · simp
      after_results_simp
      rfl
    · simp
      after_results_simp
      exact zstart m d h hh hw)]
  rfl

/-- The table holds the voxels of the box. -/
theorem holds_table (d : Dev nD) (h : ℕ) (hh : h ≤ 13) (hw : hA m d ix0 = BitVec.ofNat 32 h) : Holds (th m d) (corner (voxA m d) h) := by
  have off : S200x200x80.Slices ![100, 100, 5 * h] S12x12x12 := by
    interval_cases h <;> decide
  intro a b c i ha hb hc hi
  obtain ⟨n, rfl⟩ : ∃ n : Fin 1728, i = ix1 n := ⟨⟨(i 0).val, (i 0).isLt⟩, funext fun k => by
    obtain rfl : k = 0 := Subsingleton.elim _ _
    rfl⟩
  replace hi : n.val = a * 144 + b * 12 + c := hi
  rw [th_eq m d h hh hw off]
  pointwise
  simp only [corner, show 100 + n.val / 144 = (100 + a) % 200 from by omega, show 100 + n.val / 12 % 12 = (100 + b) % 200 from by omega,
    show 5 * h + n.val % 12 = (5 * h + c) % 80 from by omega]

end IdealRun

end Cert.Proof

end
-- ==== Proof.Total.lean ====
/-
  The kernel's result as one sum over the points, on the extended reals.

  A tile's running sum after its trips is a sum over the trips; the host adds the 32 by 16 sums. Point number
  `3136 w + 16 t + l` is lane `l` of trip `t` of tile `w`, so the whole is a sum over 100352 numbers, of which those from
  100000 on are masked out.
-/
module

public import proofs.«01_k».proof.Proof.Inputs

@[expose] public section

noncomputable section

namespace Cert.Proof

open Idealize.ShloMosaic Idealize.ShloMosaic.StableHlo
open scoped BigOperators

/-! ## A sum over a range, cut in rows -/

/-- The numbers below `a b`, in `a` rows of `b`. -/
theorem sum_rows (g : ℕ → EReal) (b : ℕ) : ∀ a, ∑ n ∈ Finset.range (b * a), g n = ∑ i ∈ Finset.range a, ∑ j ∈ Finset.range b, g (b * i + j)
  | 0 => by simp
  | a + 1 => by rw [Nat.mul_succ, Finset.sum_range_add, sum_rows g b a, Finset.sum_range_succ]

/-- The 32 tiles' 16 lanes' 196 trips run over the numbers below 100352. -/
theorem sum_tiles (g : ℕ → EReal) :
    ∑ w : Fin 32, ∑ l : Fin 16, ∑ t ∈ Finset.range 196, g (3136 * w.val + 16 * t + l.val) = ∑ n ∈ Finset.range 100352, g n := by
  rw [show 100352 = 3136 * 32 from rfl, sum_rows, Finset.sum_range]
  refine Finset.sum_congr rfl fun w _ => ?_
  rw [show 3136 = 16 * 196 from rfl, sum_rows, Finset.sum_comm]
  refine Finset.sum_congr rfl fun t _ => ?_
  rw [Finset.sum_range]
  exact Finset.sum_congr rfl fun l _ => by rw [Nat.add_assoc]

/-- The numbers from 100000 on count for nothing. -/
theorem sum_masked (g : ℕ → EReal) :
    ∑ n ∈ Finset.range 100352, (if n < 100000 then g n else 0) = ∑ n : Fin 100000, g n.val := by
  rw [show 100352 = 100000 + 352 from rfl, Finset.sum_range_add, Finset.sum_eq_zero (s := Finset.range 352), add_zero, Finset.sum_range]
  · exact Finset.sum_congr rfl fun n _ => if_pos n.isLt
  · exact fun n _ => if_neg (by omega)

namespace IdealRun

open Cert.KernelIdeal Cert.KernelIdeal.Gen

/-! ## The mask -/

/-- Lane `l` of trip `k` of tile `w` counts if its point's number is below 100000. -/
theorem laneMask_at (w k l : ℕ) (hw : w < 32) (hk : k < 196) (hl : l < 16) :
    laneMask w k (ix1 ⟨l, hl⟩) = BitVec.ofBool (decide (3136 * w + 16 * k + l < 100000)) := by
  have e : IntOp.addi (IntOp.addi (BitVec.ofNat 32 (3136 * w)) (Scalar.muli (Scf.iv 0#32 1#32 k) 16#32)) (BitVec.ofNat 32 l)
      = BitVec.ofNat 32 (3136 * w + 16 * k + l) := by
    apply BitVec.eq_of_toNat_eq
    simp only [Scf.iv, Scalar.muli, IntOp.muli, IntOp.addi, BitVec.toNat_add, BitVec.toNat_mul, BitVec.toNat_ofNat, Nat.reducePow, Nat.reduceMod]
    omega
  show BitVec.ofBool ((IntOp.addi (IntOp.addi (BitVec.ofNat 32 (3136 * w)) (Scalar.muli (Scf.iv 0#32 1#32 k) 16#32)) (laneNo (ix1 ⟨l, hl⟩))).slt 100000#32) = _
  rw [show laneNo (ix1 ⟨l, hl⟩) = BitVec.ofNat 32 l from by simp [laneNo, iota], e, BitVec.slt_eq_decide, toInt_small (by omega), show (100000#32).toInt = ((100000 : ℕ) : ℤ) from toInt_small (n := 100000) (by norm_num)]
  simp only [Nat.cast_lt]

/-! ## A tile's sum -/

section Tile

variable {X Y Z : FVec Ideal S3136 .f32} {T : FVec Ideal S1728 .f32} {w : ℕ} (hw : w < 32) (g : ℕ → EReal) (l : Fin 16)
  (hg : ∀ t, t < 196 → 3136 * w + 16 * t + l.val < 100000 → laneVal (lanes X t) (lanes Y t) (lanes Z t) T (ix1 l) = g (3136 * w + 16 * t + l.val))
include hw hg

/-- A tile's lane adds its points' values. -/
theorem tileAcc_sum : ∀ k, k ≤ 196 → tileAcc w X Y Z T k (ix1 l)
    = ∑ t ∈ Finset.range k, (if 3136 * w + 16 * t + l.val < 100000 then g (3136 * w + 16 * t + l.val) else 0)
  | 0, _ => by
    rw [Finset.range_zero, Finset.sum_empty]
    exact Ideal.ofBits_zero_f32
  | k + 1, hk => by
    rw [Finset.sum_range_succ, ← tileAcc_sum k (by omega)]
    show tileAcc w X Y Z T k (ix1 l) + Scalar.select (laneMask w k (ix1 l)) (laneVal (lanes X k) (lanes Y k) (lanes Z k) T (ix1 l)) (Ideal.ofBits .f32 0x00000000#32) = _
    rw [laneMask_at w k l.val hw (by omega) l.isLt, Ideal.ofBits_zero_f32]
    congr 1
    by_cases h : 3136 * w + 16 * k + l.val < 100000
    · rw [if_pos h, decide_eq_true h, hg k (by omega) h]; rfl
    · rw [if_neg h, decide_eq_false h]; rfl

end Tile

/-! ## All tiles -/

/-- The host's total of the tiles' sums is the sum of the points' values. -/
theorem total_sum {X Y Z : FVec Ideal S100352 .f32} {T : FVec Ideal S1728 .f32} {f : ℕ → ℕ → ℕ → EReal} (hT : Holds T f) (p : Fin 100000 → Fin 3 → ℝ)
    (h0 : ∀ n k, 0 ≤ p n k) (h1 : ∀ n k, p n k ≤ 1)
    (hX : ∀ (n : Fin 100352) (hn : n.val < 100000), X (ix1 n) = (p ⟨n.val, hn⟩ 0 : EReal))
    (hY : ∀ (n : Fin 100352) (hn : n.val < 100000), Y (ix1 n) = (p ⟨n.val, hn⟩ 1 : EReal))
    (hZ : ∀ (n : Fin 100352) (hn : n.val < 100000), Z (ix1 n) = (p ⟨n.val, hn⟩ 2 : EReal)) (i : S_.Idx) :
    Host.reduceAdd (outArr X Y Z T) (constant S_ .f32 0x00000000#32) reducesTo_S32x16_S_d0_1 h_S_ i
      = ∑ n : Fin 100000, point f (p n 0) (p n 1) (p n 2) := by
  pointwise
  set g : ℕ → EReal := fun n => if h : n < 100000 then point f (p ⟨n, h⟩ 0) (p ⟨n, h⟩ 1) (p ⟨n, h⟩ 2) else 0 with hg
  have key : ∀ (w : Fin 32) (l : Fin 16), outArr X Y Z T (ix2 w l)
      = ∑ t ∈ Finset.range 196, (fun n => if n < 100000 then g n else 0) (3136 * w.val + 16 * t + l.val) := by
    intro w l
    have hw := w.isLt
    have hl := l.isLt
    rw [show outArr X Y Z T (ix2 w l) = tileAcc w.val (slice X w.val) (slice Y w.val) (slice Z w.val) T 196 (ix1 l) from
      congrArg (tileAcc w.val (slice X w.val) (slice Y w.val) (slice Z w.val) T 196) (funext fun | 0 => rfl)]
    refine tileAcc_sum hw g l (fun t ht hn => ?_) 196 le_rfl
    have read : ∀ A : FVec Ideal S100352 .f32, lanes (slice A w.val) t (ix1 l) = A (ix1 ⟨3136 * w.val + 16 * t + l.val, by omega⟩) := by
      intro A
      refine congrArg A (funext fun | 0 => Fin.ext ?_)
      show (3136 * w.val + (16 * t + l.val) % 3136) % 100352 = 3136 * w.val + 16 * t + l.val
      omega
    rw [hg]
    simp only [dif_pos hn]
    exact laneVal_point (h0 _ _) (h1 _ _) (h0 _ _) (h1 _ _) (h0 _ _) (h1 _ _) ((read X).trans (hX _ hn)) ((read Y).trans (hY _ hn))
      ((read Z).trans (hZ _ hn)) hT
  rw [Finset.sum_congr rfl fun w _ => Finset.sum_congr rfl fun l _ => key w l]
  refine (sum_tiles (fun n => if n < 100000 then g n else 0)).trans ((sum_masked g).trans ?_)
  exact Finset.sum_congr rfl fun n _ => dif_pos n.isLt

end IdealRun

end Cert.Proof

end
-- ==== Proof.RefPoint.lean ====
/-
  The reference's values at one point, on the extended reals.

  For a point of the cube the reference's shifted coordinate, its cell's corner, the indices of the cell's eight corners
  and the point's place in its cell, read off the reference's values one after the other.
-/
module

public import proofs.«01_k».proof.Proof.Inputs
public import proofs.«01_k».proof.Proof.Gen.ReferenceIdeal.Run

@[expose] public section

noncomputable section

namespace Cert.Proof.Ref

open Cert.ReferenceIdeal Cert.ReferenceIdeal.Gen Cert.ReferenceIdeal.Value Idealize.ShloMosaic Idealize.ShloMosaic.TcCoe Idealize.ShloMosaic.StableHlo

/-- The reference's three arguments. -/
abbrev vox (V : Valuation τ sig (Elt Ideal)) : FVec Ideal S200x200x80 .f32 := V (Proc.devRef .tc main_arg0)
abbrev pts (V : Valuation τ sig (Elt Ideal)) : FVec Ideal S100000x3 .f32 := V (Proc.devRef .tc main_arg1)
abbrev hw (V : Valuation τ sig (Elt Ideal)) : IVec S_ 32 := V (Proc.devRef .tc main_arg2)

/-- The height's half, on the reals. -/
theorem half_height {w : BitVec 32} {h : ℕ} (e : w = BitVec.ofNat 32 h) (hh : h ≤ 13) :
    Ideal.div (((w.toInt : ℝ) : ℝ) : EReal) (Ideal.ofBits .f32 0x40000000#32) = (((h : ℝ) / 2 : ℝ) : EReal) := by
  rw [e, toInt_small (by omega), lit_two, div_real _ _ (by norm_num), Int.cast_natCast]

variable {V : Valuation τ sig (Elt Ideal)} {p : Fin 100000 → Fin 3 → ℝ} {h : ℕ} (H : InRange (pts V) (hw V) p h) (n : Fin 100000)
include H

/-! ## The shifted coordinates -/

theorem v9_x : res_main_v9 V (ix2 n 0) = (p n 0 : EReal) + ((10 : ℝ) : EReal) := by
  pointwise [res_main_v9]
  rw [← H.at_ n 0, ← lit_ten]
theorem v9_y : res_main_v9 V (ix2 n 1) = (p n 1 : EReal) + ((10 : ℝ) : EReal) := by
  pointwise [res_main_v9]
  rw [← H.at_ n 1, ← lit_ten]
theorem v9_z : res_main_v9 V (ix2 n 2) = (p n 2 : EReal) + (((h : ℝ) / 2 : ℝ) : EReal) := by
  pointwise [res_main_v9]
  rw [← H.at_ n 2, ← half_height H.height H.height_le]
  rfl

/-! ## The corner of the cell -/

omit H in
theorem ten_ten : (10 : ℝ) * 10 = ((100 : ℕ) : ℝ) := by norm_num
omit H in
theorem ten_half (h : ℕ) : (10 : ℝ) * ((h : ℝ) / 2) = ((5 * h : ℕ) : ℝ) := by push_cast; ring

omit H in
/-- The corner's coordinate is a shifted coordinate times ten, rounded down. -/
theorem v12_at {k : Fin 3} {x : EReal} (h9 : res_main_v9 V (ix2 n k) = x) :
    res_main_v12 V (ix2 n k) = Ideal.liftRound Int.floor (x * Ideal.ofBits .f32 0x41200000#32) := by
  pointwise [res_main_v12]
  rw [h9]

theorem v12_x : res_main_v12 V (ix2 n 0) = (((100 + cell (p n 0) : ℕ) : ℝ) : EReal) := by
  exact (v12_at n (v9_x H n)).trans (ref_min (H.low n 0) (H.high n 0) ten_ten)
theorem v12_y : res_main_v12 V (ix2 n 1) = (((100 + cell (p n 1) : ℕ) : ℝ) : EReal) := by
  exact (v12_at n (v9_y H n)).trans (ref_min (H.low n 1) (H.high n 1) ten_ten)
theorem v12_z : res_main_v12 V (ix2 n 2) = (((5 * h + cell (p n 2) : ℕ) : ℝ) : EReal) := by
  exact (v12_at n (v9_z H n)).trans (ref_min (H.low n 2) (H.high n 2) (ten_half h))

theorem v14_at : res_main_v14 V (ix1 n) = (((100 + cell (p n 0) : ℕ) : ℝ) : EReal) := by
  rw [← v12_x H n]
  pointwise [res_main_v14]
theorem v16_at : res_main_v16 V (ix1 n) = (((100 + cell (p n 1) : ℕ) : ℝ) : EReal) := by
  rw [← v12_y H n]
  pointwise [res_main_v16]
theorem v18_at : res_main_v18 V (ix1 n) = (((5 * h + cell (p n 2) : ℕ) : ℝ) : EReal) := by
  rw [← v12_z H n]
  pointwise [res_main_v18]

/-! ## The indices of the corners -/

omit H in
theorem next_one (n : ℕ) : (((n : ℕ) : ℝ) : EReal) + 1 = (((n + 1 : ℕ) : ℝ) : EReal) := by
  rw [← ref_next, lit_one, EReal.coe_one]

theorem v27_at : res_main_v27 V (ix1 n) = BitVec.ofNat 32 (100 + cell (p n 0)) := by
  have hc := cell_le (H.high n 0)
  pointwise [res_main_v27]
  rw [v14_at H n]
  exact ref_clip (top := 199) (by omega) (by norm_num)
theorem v29_at : res_main_v29 V (ix1 n) = BitVec.ofNat 32 (100 + cell (p n 1)) := by
  have hc := cell_le (H.high n 1)
  pointwise [res_main_v29]
  rw [v16_at H n]
  exact ref_clip (top := 199) (by omega) (by norm_num)
theorem v31_at : res_main_v31 V (ix1 n) = BitVec.ofNat 32 (5 * h + cell (p n 2)) := by
  have hc := cell_le (H.high n 2)
  have hh := H.height_le
  pointwise [res_main_v31]
  rw [v18_at H n]
  exact ref_clip (top := 79) (by omega) (by norm_num)
theorem v35_at : res_main_v35 V (ix1 n) = BitVec.ofNat 32 (100 + (cell (p n 0) + 1)) := by
  have hc := cell_le (H.high n 0)
  pointwise [res_main_v35]
  rw [v14_at H n]
  rw [next_one]
  exact ref_clip (top := 199) (by omega) (by norm_num)
theorem v39_at : res_main_v39 V (ix1 n) = BitVec.ofNat 32 (100 + (cell (p n 1) + 1)) := by
  have hc := cell_le (H.high n 1)
  pointwise [res_main_v39]
  rw [v16_at H n]
  rw [next_one]
  exact ref_clip (top := 199) (by omega) (by norm_num)
theorem v43_at : res_main_v43 V (ix1 n) = BitVec.ofNat 32 (5 * h + (cell (p n 2) + 1)) := by
  have hc := cell_le (H.high n 2)
  have hh := H.height_le
  pointwise [res_main_v43]
  rw [v18_at H n]
  rw [next_one]
  exact ref_clip (top := 79) (by omega) (by norm_num)

/-! ## The place in the cell -/

theorem v25_at {k : Fin 3} {s : ℝ} {N : ℕ} (hs : 10 * s = (N : ℝ)) (h9 : res_main_v9 V (ix2 n k) = (p n k : EReal) + (s : EReal))
    (h12 : res_main_v12 V (ix2 n k) = (((N + cell (p n k) : ℕ) : ℝ) : EReal)) {y : EReal} (h25 : res_main_v25 V (ix2 n k) = y) :
    (y + Ideal.ofBits .f32 0x3F800000#32) * Ideal.ofBits .f32 0x3F000000#32 = (place (p n k) : EReal) := by
  rw [← ref_place (H.low n k) (H.high n k) hs, ← h25]
  congr 2
  pointwise [res_main_v25]
  rw [h9, h12]

theorem v220_at : res_main_v220 V (ix1 n) = (place (p n 0) : EReal) := by
  rw [← v25_at H n ten_ten (v9_x H n) (v12_x H n) rfl]
  pointwise [res_main_v220]
theorem v226_at : res_main_v226 V (ix1 n) = (place (p n 1) : EReal) := by
  rw [← v25_at H n ten_ten (v9_y H n) (v12_y H n) rfl]
  pointwise [res_main_v226]
theorem v232_at : res_main_v232 V (ix1 n) = (place (p n 2) : EReal) := by
  rw [← v25_at H n (ten_half h) (v9_z H n) (v12_z H n) rfl]
  pointwise [res_main_v232]

end Cert.Proof.Ref

end
-- ==== Proof.RefTotal.lean ====
/-
  The reference's result as one sum over the points, on the extended reals.

  Its lookup of the eight corners reads the voxels at the three indices of each corner. The weighted sum of the eight is
  the kernel's `blend`, its Huber value the kernel's `huber`, and the reference adds these over the points.
-/
module

public import proofs.«01_k».proof.Proof.RefPoint

@[expose] public section

noncomputable section

namespace Cert.Proof.Ref

open Cert.ReferenceIdeal Cert.ReferenceIdeal.Gen Cert.ReferenceIdeal.Value Idealize.ShloMosaic Idealize.ShloMosaic.TcCoe Idealize.ShloMosaic.StableHlo

/-! ## The lookup -/

/-- The numbers of the reference's lookup. -/
abbrev lookupDims : GatherDims S200x200x80 S100000x3 S100000 := gather_S200x200x80_S100000x3_S100000_n_012_n_n_012_1_111

/-- Along each axis the lookup reads at the row's index, kept within the axis. -/
theorem lookup_axis (idx : IVec S100000x3 32) (n : Fin 100000) (k : Fin 3) :
    lookupDims.start (ix1 n) idx k + lookupDims.batchCoord (ix1 n) k + lookupDims.offCoord (ix1 n) k
      = min (idx (ix2 n k)).toInt.toNat (S200x200x80.size k - 1) := by
  have mem : k ∈ lookupDims.startIndexMap := by
    show k ∈ [(0 : Fin 3), 1, 2]
    fin_cases k <;> decide
  have col : k ∈ lookupDims.collapsedSliceDims := mem
  rw [GatherDims.batchCoord_eq_zero _ _ _ List.not_mem_nil,
    GatherDims.offCoord_eq_zero _ _ _ (fun hm => ((GatherDims.mem_sKept _ _).mp hm).1 col)]
  simp only [Nat.add_zero]
  unfold GatherDims.start
  rw [dif_pos mem]
  fin_cases k <;>
    refine congrArg (fun q => min (idx q).toInt.toNat _) (funext fun b => Fin.ext ?_) <;>
    match b with
    | ⟨0, _⟩ => rfl
    | ⟨1, _⟩ => rfl

/-- The lookup at in-range indices. -/
theorem lookup_at (x : FVec Ideal S200x200x80 .f32) (idx : IVec S100000x3 32) (n : Fin 100000) {a b c : ℕ} (ha : a < 200) (hb : b < 200) (hc : c < 80)
    (ea : idx (ix2 n 0) = BitVec.ofNat 32 a) (eb : idx (ix2 n 1) = BitVec.ofNat 32 b) (ec : idx (ix2 n 2) = BitVec.ofNat 32 c) :
    Host.gather lookupDims x idx (ix1 n) = x (ix3 ⟨a, ha⟩ ⟨b, hb⟩ ⟨c, hc⟩) := by
  unfold Host.gather
  congr 1
  funext k
  refine Fin.ext ?_
  refine (lookup_axis idx n k).trans ?_
  fin_cases k
  · show min (idx (ix2 n 0)).toInt.toNat 199 = a
    rw [ea, toInt_small (by omega), Int.toNat_natCast]; omega
  · show min (idx (ix2 n 1)).toInt.toNat 199 = b
    rw [eb, toInt_small (by omega), Int.toNat_natCast]; omega
  · show min (idx (ix2 n 2)).toInt.toNat 79 = c
    rw [ec, toInt_small (by omega), Int.toNat_natCast]; omega

/-- A word below 2^31, with a number added if it is negative, is itself. -/
theorem wrap_word {n : ℕ} (top : BitVec 32) (hn : n < 2 ^ 31) :
    Scalar.select (IntOp.cmpi .slt (BitVec.ofNat 32 n) 0#32) (IntOp.addi (BitVec.ofNat 32 n) top) (BitVec.ofNat 32 n) = BitVec.ofNat 32 n := by
  refine select_slt_zero_of_nonneg (s := S_) (fun _ => BitVec.ofNat 32 n) (fun _ => IntOp.addi (BitVec.ofNat 32 n) top)
    (fun _ => BitVec.ofNat 32 n) ix0 ?_
  show 0 ≤ (BitVec.ofNat 32 n).toInt
  rw [toInt_small hn]
  exact Int.natCast_nonneg n

/-- The lookup of one corner of every point, from its three columns of indices. -/
theorem gathered (x : FVec Ideal S200x200x80 .f32) (X Y Z : IVec S100000 32) (n : Fin 100000) {h a b c : ℕ} (ha : 100 + a < 200) (hb : 100 + b < 200)
    (hc : 5 * h + c < 80) (ea : X (ix1 n) = BitVec.ofNat 32 (100 + a)) (eb : Y (ix1 n) = BitVec.ofNat 32 (100 + b))
    (ec : Z (ix1 n) = BitVec.ofNat 32 (5 * h + c)) :
    Host.gather lookupDims x (concatenate S100000x3 1
      [⟨S100000x1, broadcastInDim S100000x1 ![0] bcast_S100000_S100000x1_0 (select (cmpi .slt X (broadcastInDim S100000 ![] bcast_S_S100000 (constantI S_ 32 0#32)))
          (addi X (broadcastInDim S100000 ![] bcast_S_S100000 (constantI S_ 32 200#32))) X)⟩,
       ⟨S100000x1, broadcastInDim S100000x1 ![0] bcast_S100000_S100000x1_0 (select (cmpi .slt Y (broadcastInDim S100000 ![] bcast_S_S100000 (constantI S_ 32 0#32)))
          (addi Y (broadcastInDim S100000 ![] bcast_S_S100000 (constantI S_ 32 200#32))) Y)⟩,
       ⟨S100000x1, broadcastInDim S100000x1 ![0] bcast_S100000_S100000x1_0 (select (cmpi .slt Z (broadcastInDim S100000 ![] bcast_S_S100000 (constantI S_ 32 0#32)))
          (addi Z (broadcastInDim S100000 ![] bcast_S_S100000 (constantI S_ 32 80#32))) Z)⟩]
      concatenates_S100000x1_S100000x1_S100000x1_S100000x3_d1) (ix1 n) = corner x h a b c := by
  rw [lookup_at x _ n ha hb hc]
  · simp only [corner, Nat.mod_eq_of_lt ha, Nat.mod_eq_of_lt hb, Nat.mod_eq_of_lt hc]
  · pointwise
    rw [ea]
    exact wrap_word _ (by omega)
  · pointwise
    rw [eb]
    exact wrap_word _ (by omega)
  · pointwise
    rw [ec]
    exact wrap_word _ (by omega)

variable {V : Valuation τ sig (Elt Ideal)} {p : Fin 100000 → Fin 3 → ℝ} {h : ℕ} (H : InRange (pts V) (hw V) p h) (n : Fin 100000)
include H

/-! ## The eight corners -/

theorem corner0 : res_main_v212 V (ix2 0 n) = corner (vox V) h (cell (p n 0) + 1) (cell (p n 1) + 1) (cell (p n 2) + 1) := by
  have h0 := cell_le (H.high n 0)
  have h1 := cell_le (H.high n 1)
  have h2 := cell_le (H.high n 2)
  have hh := H.height_le
  pointwise [res_main_v212]
  exact gathered (vox V) _ _ _ n (by omega) (by omega) (by omega) (v35_at H n) (v39_at H n) (v43_at H n)
theorem corner1 : res_main_v212 V (ix2 1 n) = corner (vox V) h (cell (p n 0) + 1) (cell (p n 1) + 1) (cell (p n 2)) := by
  have h0 := cell_le (H.high n 0)
  have h1 := cell_le (H.high n 1)
  have h2 := cell_le (H.high n 2)
  have hh := H.height_le
  pointwise [res_main_v212]
  exact gathered (vox V) _ _ _ n (by omega) (by omega) (by omega) (v35_at H n) (v39_at H n) (v31_at H n)
theorem corner2 : res_main_v212 V (ix2 2 n) = corner (vox V) h (cell (p n 0) + 1) (cell (p n 1)) (cell (p n 2) + 1) := by
  have h0 := cell_le (H.high n 0)
  have h1 := cell_le (H.high n 1)
  have h2 := cell_le (H.high n 2)
  have hh := H.height_le
  pointwise [res_main_v212]
  exact gathered (vox V) _ _ _ n (by omega) (by omega) (by omega) (v35_at H n) (v29_at H n) (v43_at H n)
theorem corner3 : res_main_v212 V (ix2 3 n) = corner (vox V) h (cell (p n 0) + 1) (cell (p n 1)) (cell (p n 2)) := by
  have h0 := cell_le (H.high n 0)
  have h1 := cell_le (H.high n 1)
  have h2 := cell_le (H.high n 2)
  have hh := H.height_le
  pointwise [res_main_v212]
  exact gathered (vox V) _ _ _ n (by omega) (by omega) (by omega) (v35_at H n) (v29_at H n) (v31_at H n)
theorem corner4 : res_main_v212 V (ix2 4 n) = corner (vox V) h (cell (p n 0)) (cell (p n 1) + 1) (cell (p n 2) + 1) := by
  have h0 := cell_le (H.high n 0)
  have h1 := cell_le (H.high n 1)
  have h2 := cell_le (H.high n 2)
  have hh := H.height_le
  pointwise [res_main_v212]
  exact gathered (vox V) _ _ _ n (by omega) (by omega) (by omega) (v27_at H n) (v39_at H n) (v43_at H n)
theorem corner5 : res_main_v212 V (ix2 5 n) = corner (vox V) h (cell (p n 0)) (cell (p n 1) + 1) (cell (p n 2)) := by
  have h0 := cell_le (H.high n 0)
  have h1 := cell_le (H.high n 1)
  have h2 := cell_le (H.high n 2)
  have hh := H.height_le
  pointwise [res_main_v212]
  exact gathered (vox V) _ _ _ n (by omega) (by omega) (by omega) (v27_at H n) (v39_at H n) (v31_at H n)
theorem corner6 : res_main_v212 V (ix2 6 n) = corner (vox V) h (cell (p n 0)) (cell (p n 1)) (cell (p n 2) + 1) := by
  have h0 := cell_le (H.high n 0)
  have h1 := cell_le (H.high n 1)
  have h2 := cell_le (H.high n 2)
  have hh := H.height_le
  pointwise [res_main_v212]
  exact gathered (vox V) _ _ _ n (by omega) (by omega) (by omega) (v27_at H n) (v29_at H n) (v43_at H n)
theorem corner7 : res_main_v212 V (ix2 7 n) = corner (vox V) h (cell (p n 0)) (cell (p n 1)) (cell (p n 2)) := by
  have h0 := cell_le (H.high n 0)
  have h1 := cell_le (H.high n 1)
  have h2 := cell_le (H.high n 2)
  have hh := H.height_le
  pointwise [res_main_v212]
  exact gathered (vox V) _ _ _ n (by omega) (by omega) (by omega) (v27_at H n) (v29_at H n) (v31_at H n)

/-! ## The weighted sum -/

theorem v284_at : res_main_v284 V (ix2 n 0) = blend (place (p n 0)) (place (p n 1)) (place (p n 2))
    (corner (vox V) h (cell (p n 0) + 1) (cell (p n 1) + 1) (cell (p n 2) + 1)) (corner (vox V) h (cell (p n 0) + 1) (cell (p n 1) + 1) (cell (p n 2)))
    (corner (vox V) h (cell (p n 0) + 1) (cell (p n 1)) (cell (p n 2) + 1)) (corner (vox V) h (cell (p n 0) + 1) (cell (p n 1)) (cell (p n 2)))
    (corner (vox V) h (cell (p n 0)) (cell (p n 1) + 1) (cell (p n 2) + 1)) (corner (vox V) h (cell (p n 0)) (cell (p n 1) + 1) (cell (p n 2)))
    (corner (vox V) h (cell (p n 0)) (cell (p n 1)) (cell (p n 2) + 1)) (corner (vox V) h (cell (p n 0)) (cell (p n 1)) (cell (p n 2))) := by
  pointwise [res_main_v284]
  simp only [Fin.sum_univ_eight]
  pointwise
  rw [corner0 H n, corner1 H n, corner2 H n, corner3 H n, corner4 H n, corner5 H n, corner6 H n, corner7 H n, v220_at H n, v226_at H n, v232_at H n]
  simp only [blend, lit_one, EReal.coe_one]

/-! ## The total -/

omit H n in
/-- The reference's last sum. -/
abbrev total (V : Valuation τ sig (Elt Ideal)) : FVec Ideal S_ .f32 := Host.reduceAdd
  (select (cmpf .olt (res_main_v285 V) (broadcastInDim S100000x1 ![] bcast_S_S100000x1 (constant S_ .f32 0x3F800000#32)))
    (mulf (mulf (broadcastInDim S100000x1 ![] bcast_S_S100000x1 (constant S_ .f32 0x3F000000#32)) (res_main_v284 V)) (res_main_v284 V))
    (subf (res_main_v285 V) (broadcastInDim S100000x1 ![] bcast_S_S100000x1 (constant S_ .f32 0x3F000000#32))))
  (constant S_ .f32 0x00000000#32) reducesTo_S100000x1_S_d0_1 h_S_

omit n in
theorem total_at (i : S_.Idx) : total V i = ∑ n : Fin 100000, point (corner (vox V) h) (p n 0) (p n 1) (p n 2) := by
  pointwise [res_main_v285]
  refine Finset.sum_congr rfl fun n _ => ?_
  rw [Fin.sum_univ_one, v284_at H n]
  unfold point
  generalize blend _ _ _ _ _ _ _ _ _ _ _ = d
  unfold huber
  rw [lit_one, EReal.coe_one]
  show (if max d (-d) < 1 then _ else _) = _
  by_cases hd : max d (-d) < 1
  · rw [if_pos hd, show Ideal.cmp .olt (max d (-d)) 1 = 1#1 from congrArg BitVec.ofBool (decide_eq_true hd)]
    rfl
  · rw [if_neg hd, show Ideal.cmp .olt (max d (-d)) 1 = 0#1 from congrArg BitVec.ofBool (decide_eq_false hd)]
    rfl

end Cert.Proof.Ref

end
-- ==== Proof.Algebraic.lean ====
/-
  The kernel's result is the reference's on the extended reals, for points of the cube and a height up to 13.

  Both are the same sum over the points, divided by the number of points.
-/
module

public import proofs.«01_k».proof.Proof.Frames
public import proofs.«01_k».proof.Proof.Total
public import proofs.«01_k».proof.Proof.RefTotal

@[expose] public section

noncomputable section

namespace Cert.Proof

open Idealize.ShloMosaic Idealize.ShloMosaic.TcCoe Idealize.ShloMosaic.StableHlo Idealize.SL.Sem

/-- The kernel's host total and the reference's agree when the arguments do. -/
theorem totals (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal))
    (e : Cert.Pre_in_range.fn (F := Ideal) (IdealRun.voxA m d) (IdealRun.ptsA m d) (IdealRun.hA m d) = fun _ => 1#1)
    (e0 : Ref.vox V = IdealRun.voxA m d) (e1 : Ref.pts V = IdealRun.ptsA m d) (e2 : Ref.hw V = IdealRun.hA m d) :
    Host.reduceAdd (IdealRun.oh' m d) (constant Cert.KernelIdeal.S_ .f32 0x00000000#32) Cert.KernelIdeal.Gen.facts.reducesTo_S32x16_S_d0_1 Cert.KernelIdeal.Gen.facts.h_S_
      = Ref.total V := by
  obtain ⟨p, h, H⟩ := inRange_of_pre _ _ _ e
  funext i
  rw [Ref.total_at (V := V) (p := p) (h := h) (by rw [e1, e2]; exact H), e0]
  have x := fun (n : Fin 100352) (hn : n.val < 100000) => (IdealRun.xh_at m d n hn).trans (H.at_ ⟨n.val, hn⟩ 0)
  have y := fun (n : Fin 100352) (hn : n.val < 100000) => (IdealRun.yh_at m d n hn).trans (H.at_ ⟨n.val, hn⟩ 1)
  have z := fun (n : Fin 100352) (hn : n.val < 100000) => (IdealRun.zh_at m d n hn).trans (H.at_ ⟨n.val, hn⟩ 2)
  exact IdealRun.total_sum (IdealRun.holds_table m d h H.height_le H.height) p H.low H.high x y z i

theorem algebraic : Cert.algebraic_KernelIdeal_ReferenceIdeal_pre_in_range := by
  intro m g m' g' hpre hargs
  refine ⟨fun c => IdealRun.fin m c (Proc.devRef .tc Cert.KernelIdeal.main_v15), ?_, ?_⟩
  · exact (θ_run Cert.KernelIdeal.defs _ _).mono (fun _ h c => ⟨h.1 c _ (IdealRun.mem_uc Cert.KernelIdeal.main_v15), (IdealRun.kept m h).1 c⟩)
      (IdealRun.run_main (F := Ideal) m g)
  · refine (θ_run Cert.ReferenceIdeal.defs _ _).mono (fun r h c => ⟨(h c).1.trans ?_, (h c).2⟩) (Cert.ReferenceIdeal.Value.run m' g')
    obtain ⟨e0, e1, e2⟩ := hargs c
    refine Eq.trans ?_ (IdealRun.fin_result m c).symm
    exact congrArg (fun s => Host.divf s (constant Cert.KernelIdeal.S_ .f32 0x47C35000#32)) (totals m c (launchContents m' c) (hpre c) e0 e1 e2).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  frame_kernel, frame_ideal, frame_ideal_in_range, frame_ref, frame_ref_in_range, preserves, algebraic⟩

end Cert.Proof

end
